-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S1024x512 : Shape := ⟨2, ![1024, 512]⟩
abbrev S104x512 : Shape := ⟨2, ![104, 512]⟩
abbrev S8x104x512 : Shape := ⟨3, ![8, 104, 512]⟩
abbrev S7 : Shape := ⟨1, ![7]⟩
abbrev S8 : Shape := ⟨1, ![8]⟩
abbrev S_ : Shape := ⟨0, ![]⟩
abbrev S1024x32 : Shape := ⟨2, ![1024, 32]⟩
abbrev S256x256 : Shape := ⟨2, ![256, 256]⟩
abbrev S1x32 : Shape := ⟨2, ![1, 32]⟩
abbrev S32 : Shape := ⟨1, ![32]⟩
abbrev S1024 : Shape := ⟨1, ![1024]⟩
abbrev S8x1 : Shape := ⟨2, ![8, 1]⟩
abbrev S8x1024 : Shape := ⟨2, ![8, 1024]⟩
abbrev S1x1024 : Shape := ⟨2, ![1, 1024]⟩
abbrev S104x1024 : Shape := ⟨2, ![104, 1024]⟩
abbrev S104x256 : Shape := ⟨2, ![104, 256]⟩
abbrev S1x104x512 : Shape := ⟨3, ![1, 104, 512]⟩
abbrev S1 : Shape := ⟨1, ![1]⟩
abbrev S1024x832 : Shape := ⟨2, ![1024, 832]⟩
abbrev S832x512 : Shape := ⟨2, ![832, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x1, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S1024x1, .i32⟩
  | .local _ .vmem, ⟨2, _⟩ => ⟨S4x256x512, .f32⟩
  | .local _ .vmem, ⟨3, _⟩ => ⟨S1024x512, .f32⟩
  | .local _ .vmem, ⟨4, _⟩ => ⟨S104x512, .bf16⟩
  | .local _ .vmem, ⟨5, _⟩ => ⟨S8x104x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  let c0_i32_113 : BitVec 32 := 0#32
  ![v2.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v278 : BitVec 32 := Scalar.addi v2 c1_i32_115
  let c8_i32_116 : BitVec 32 := 8#32
  let c0_i32_117 : BitVec 32 := 0#32
  let v279 : BitVec 1 := Scalar.cmpi .eq c8_i32_116 c0_i32_117
  let c1_i32_118 : BitVec 32 := 1#32
  let v280 : BitVec 32 := Scalar.select v279 c1_i32_118 c8_i32_116
  let v281 : BitVec 32 := Scalar.remsi v278 v280
  let c0_i32_120 : BitVec 32 := 0#32
  let v283 : BitVec 1 := Scalar.cmpi .slt v281 c0_i32_120
  let c0_i32_121 : BitVec 32 := 0#32
  let v284 : BitVec 1 := Scalar.cmpi .slt v280 c0_i32_121
  let v285 : BitVec 1 := Scalar.xori v283 v284
  let c0_i32_119 : BitVec 32 := 0#32
  let v282 : BitVec 1 := Scalar.cmpi .ne v281 c0_i32_119
  let v286 : BitVec 1 := Scalar.andi v285 v282
  let v287 : BitVec 32 := Scalar.addi v281 v280
  let v288 : BitVec 32 := Scalar.select v286 v287 v281
  let c1_i32_123 : BitVec 32 := 1#32
  let v289 : BitVec 32 := Scalar.muli v288 c1_i32_123
  let v290 : BitVec 32 := Scalar.addi c0_i32_124 v289
  v290.toNat
def k0_dev9 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_127 : BitVec 32 := 2#32
  let v297 : BitVec 32 := Scalar.addi v2 c2_i32_127
  let c8_i32_128 : BitVec 32 := 8#32
  let c0_i32_129 : BitVec 32 := 0#32
  let v298 : BitVec 1 := Scalar.cmpi .eq c8_i32_128 c0_i32_129
  let c1_i32_130 : BitVec 32 := 1#32
  let v299 : BitVec 32 := Scalar.select v298 c1_i32_130 c8_i32_128
  let v300 : BitVec 32 := Scalar.remsi v297 v299
  let c0_i32_132 : BitVec 32 := 0#32
  let v302 : BitVec 1 := Scalar.cmpi .slt v300 c0_i32_132
  let c0_i32_133 : BitVec 32 := 0#32
  let v303 : BitVec 1 := Scalar.cmpi .slt v299 c0_i32_133
  let v304 : BitVec 1 := Scalar.xori v302 v303
  let c0_i32_131 : BitVec 32 := 0#32
  let v301 : BitVec 1 := Scalar.cmpi .ne v300 c0_i32_131
  let v305 : BitVec 1 := Scalar.andi v304 v301
  let v306 : BitVec 32 := Scalar.addi v300 v299
  let v307 : BitVec 32 := Scalar.select v305 v306 v300
  let c1_i32_135 : BitVec 32 := 1#32
  let v308 : BitVec 32 := Scalar.muli v307 c1_i32_135
  let v309 : BitVec 32 := Scalar.addi c0_i32_136 v308
  v309.toNat
def k0_dev10 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_139 : BitVec 32 := 3#32
  let v316 : BitVec 32 := Scalar.addi v2 c3_i32_139
  let c8_i32_140 : BitVec 32 := 8#32
  let c0_i32_141 : BitVec 32 := 0#32
  let v317 : BitVec 1 := Scalar.cmpi .eq c8_i32_140 c0_i32_141
  let c1_i32_142 : BitVec 32 := 1#32
  let v318 : BitVec 32 := Scalar.select v317 c1_i32_142 c8_i32_140
  let v319 : BitVec 32 := Scalar.remsi v316 v318
  let c0_i32_144 : BitVec 32 := 0#32
  let v321 : BitVec 1 := Scalar.cmpi .slt v319 c0_i32_144
  let c0_i32_145 : BitVec 32 := 0#32
  let v322 : BitVec 1 := Scalar.cmpi .slt v318 c0_i32_145
  let v323 : BitVec 1 := Scalar.xori v321 v322
  let c0_i32_143 : BitVec 32 := 0#32
  let v320 : BitVec 1 := Scalar.cmpi .ne v319 c0_i32_143
  let v324 : BitVec 1 := Scalar.andi v323 v320
  let v325 : BitVec 32 := Scalar.addi v319 v318
  let v326 : BitVec 32 := Scalar.select v324 v325 v319
  let c1_i32_147 : BitVec 32 := 1#32
  let v327 : BitVec 32 := Scalar.muli v326 c1_i32_147
  let v328 : BitVec 32 := Scalar.addi c0_i32_148 v327
  v328.toNat
def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_151 : BitVec 32 := 4#32
  let v335 : BitVec 32 := Scalar.addi v2 c4_i32_151
  let c8_i32_152 : BitVec 32 := 8#32
  let c0_i32_153 : BitVec 32 := 0#32
  let v336 : BitVec 1 := Scalar.cmpi .eq c8_i32_152 c0_i32_153
  let c1_i32_154 : BitVec 32 := 1#32
  let v337 : BitVec 32 := Scalar.select v336 c1_i32_154 c8_i32_152
  let v338 : BitVec 32 := Scalar.remsi v335 v337
  let c0_i32_156 : BitVec 32 := 0#32
  let v340 : BitVec 1 := Scalar.cmpi .slt v338 c0_i32_156
  let c0_i32_157 : BitVec 32 := 0#32
  let v341 : BitVec 1 := Scalar.cmpi .slt v337 c0_i32_157
  let v342 : BitVec 1 := Scalar.xori v340 v341
  let c0_i32_155 : BitVec 32 := 0#32
  let v339 : BitVec 1 := Scalar.cmpi .ne v338 c0_i32_155
  let v343 : BitVec 1 := Scalar.andi v342 v339
  let v344 : BitVec 32 := Scalar.addi v338 v337
  let v345 : BitVec 32 := Scalar.select v343 v344 v338
  let c1_i32_159 : BitVec 32 := 1#32
  let v346 : BitVec 32 := Scalar.muli v345 c1_i32_159
  let v347 : BitVec 32 := Scalar.addi c0_i32_160 v346
  v347.toNat
def k0_dev12 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_163 : BitVec 32 := 5#32
  let v354 : BitVec 32 := Scalar.addi v2 c5_i32_163
  let c8_i32_164 : BitVec 32 := 8#32
  let c0_i32_165 : BitVec 32 := 0#32
  let v355 : BitVec 1 := Scalar.cmpi .eq c8_i32_164 c0_i32_165
  let c1_i32_166 : BitVec 32 := 1#32
  let v356 : BitVec 32 := Scalar.select v355 c1_i32_166 c8_i32_164
  let v357 : BitVec 32 := Scalar.remsi v354 v356
  let c0_i32_168 : BitVec 32 := 0#32
  let v359 : BitVec 1 := Scalar.cmpi .slt v357 c0_i32_168
  let c0_i32_169 : BitVec 32 := 0#32
  let v360 : BitVec 1 := Scalar.cmpi .slt v356 c0_i32_169
  let v361 : BitVec 1 := Scalar.xori v359 v360
  let c0_i32_167 : BitVec 32 := 0#32
  let v358 : BitVec 1 := Scalar.cmpi .ne v357 c0_i32_167
  let v362 : BitVec 1 := Scalar.andi v361 v358
  let v363 : BitVec 32 := Scalar.addi v357 v356
  let v364 : BitVec 32 := Scalar.select v362 v363 v357
  let c1_i32_171 : BitVec 32 := 1#32
  let v365 : BitVec 32 := Scalar.muli v364 c1_i32_171
  let v366 : BitVec 32 := Scalar.addi c0_i32_172 v365
  v366.toNat
def k0_dev13 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_175 : BitVec 32 := 6#32
  let v373 : BitVec 32 := Scalar.addi v2 c6_i32_175
  let c8_i32_176 : BitVec 32 := 8#32
  let c0_i32_177 : BitVec 32 := 0#32
  let v374 : BitVec 1 := Scalar.cmpi .eq c8_i32_176 c0_i32_177
  let c1_i32_178 : BitVec 32 := 1#32
  let v375 : BitVec 32 := Scalar.select v374 c1_i32_178 c8_i32_176
  let v376 : BitVec 32 := Scalar.remsi v373 v375
  let c0_i32_180 : BitVec 32 := 0#32
  let v378 : BitVec 1 := Scalar.cmpi .slt v376 c0_i32_180
  let c0_i32_181 : BitVec 32 := 0#32
  let v379 : BitVec 1 := Scalar.cmpi .slt v375 c0_i32_181
  let v380 : BitVec 1 := Scalar.xori v378 v379
  let c0_i32_179 : BitVec 32 := 0#32
  let v377 : BitVec 1 := Scalar.cmpi .ne v376 c0_i32_179
  let v381 : BitVec 1 := Scalar.andi v380 v377
  let v382 : BitVec 32 := Scalar.addi v376 v375
  let v383 : BitVec 32 := Scalar.select v381 v382 v376
  let c1_i32_183 : BitVec 32 := 1#32
  let v384 : BitVec 32 := Scalar.muli v383 c1_i32_183
  let v385 : BitVec 32 := Scalar.addi c0_i32_184 v384
  v385.toNat
def k0_dev14 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_187 : BitVec 32 := 7#32
  let v392 : BitVec 32 := Scalar.addi v2 c7_i32_187
  let c8_i32_188 : BitVec 32 := 8#32
  let c0_i32_189 : BitVec 32 := 0#32
  let v393 : BitVec 1 := Scalar.cmpi .eq c8_i32_188 c0_i32_189
  let c1_i32_190 : BitVec 32 := 1#32
  let v394 : BitVec 32 := Scalar.select v393 c1_i32_190 c8_i32_188
  let v395 : BitVec 32 := Scalar.remsi v392 v394
  let c0_i32_192 : BitVec 32 := 0#32
  let v397 : BitVec 1 := Scalar.cmpi .slt v395 c0_i32_192
  let c0_i32_193 : BitVec 32 := 0#32
  let v398 : BitVec 1 := Scalar.cmpi .slt v394 c0_i32_193
  let v399 : BitVec 1 := Scalar.xori v397 v398
  let c0_i32_191 : BitVec 32 := 0#32
  let v396 : BitVec 1 := Scalar.cmpi .ne v395 c0_i32_191
  let v400 : BitVec 1 := Scalar.andi v399 v396
  let v401 : BitVec 32 := Scalar.addi v395 v394
  let v402 : BitVec 32 := Scalar.select v400 v401 v395
  let c1_i32_195 : BitVec 32 := 1#32
  let v403 : BitVec 32 := Scalar.muli v402 c1_i32_195
  let v404 : BitVec 32 := Scalar.addi c0_i32_196 v403
  v404.toNat
def k0_off3 (d0 : Dev nD) (c1_i32_226 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v506 : BitVec 32 := Scalar.subi v2 c1_i32_226
  let c8_i32_227 : BitVec 32 := 8#32
  let c0_i32_228 : BitVec 32 := 0#32
  let v507 : BitVec 1 := Scalar.cmpi .eq c8_i32_227 c0_i32_228
  let c1_i32_229 : BitVec 32 := 1#32
  let v508 : BitVec 32 := Scalar.select v507 c1_i32_229 c8_i32_227
  let v509 : BitVec 32 := Scalar.remsi v506 v508
  let c0_i32_231 : BitVec 32 := 0#32
  let v511 : BitVec 1 := Scalar.cmpi .slt v509 c0_i32_231
  let c0_i32_232 : BitVec 32 := 0#32
  let v512 : BitVec 1 := Scalar.cmpi .slt v508 c0_i32_232
  let v513 : BitVec 1 := Scalar.xori v511 v512
  let c0_i32_230 : BitVec 32 := 0#32
  let v510 : BitVec 1 := Scalar.cmpi .ne v509 c0_i32_230
  let v514 : BitVec 1 := Scalar.andi v513 v510
  let v515 : BitVec 32 := Scalar.addi v509 v508
  let v516 : BitVec 32 := Scalar.select v514 v515 v509
  ![v516.toNat]
def k0_off4 (d0 : Dev nD) (c1_i32_226 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v506 : BitVec 32 := Scalar.subi v2 c1_i32_226
  let c8_i32_227 : BitVec 32 := 8#32
  let c0_i32_228 : BitVec 32 := 0#32
  let v507 : BitVec 1 := Scalar.cmpi .eq c8_i32_227 c0_i32_228
  let c1_i32_229 : BitVec 32 := 1#32
  let v508 : BitVec 32 := Scalar.select v507 c1_i32_229 c8_i32_227
  let v509 : BitVec 32 := Scalar.remsi v506 v508
  let c0_i32_231 : BitVec 32 := 0#32
  let v511 : BitVec 1 := Scalar.cmpi .slt v509 c0_i32_231
  let c0_i32_232 : BitVec 32 := 0#32
  let v512 : BitVec 1 := Scalar.cmpi .slt v508 c0_i32_232
  let v513 : BitVec 1 := Scalar.xori v511 v512
  let c0_i32_230 : BitVec 32 := 0#32
  let v510 : BitVec 1 := Scalar.cmpi .ne v509 c0_i32_230
  let v514 : BitVec 1 := Scalar.andi v513 v510
  let v515 : BitVec 32 := Scalar.addi v509 v508
  let v516 : BitVec 32 := Scalar.select v514 v515 v509
  let c0_i32_236 : BitVec 32 := 0#32
  let c0_i32_237 : BitVec 32 := 0#32
  ![v516.toNat, 0, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S1024x32 : Shape := ⟨2, ![1024, 32]⟩
abbrev S_ : Shape := ⟨0, ![]⟩
abbrev S1024x32x512 : Shape := ⟨3, ![1024, 32, 512]⟩
abbrev S1024x32x1 : Shape := ⟨3, ![1024, 32, 1]⟩
abbrev S1024x512 : Shape := ⟨2, ![1024, 512]⟩

abbrev nBuf : Space → Nat
  | .hbm => 31
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x1, .i32⟩
  | .hbm, ⟨3, _⟩ => ⟨S32x256x512, .f32⟩
  | .hbm, ⟨4, _⟩ => ⟨S1024x32, .i32⟩
  | .hbm, ⟨5, _⟩ => ⟨S1024x32, .i32⟩
  | .hbm, ⟨6, _⟩ => ⟨S1024x32, .i1⟩
  | .hbm, ⟨7, _⟩ => ⟨S1024x32, .i32⟩
  | .hbm, ⟨8, _⟩ => ⟨S_, .i32⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S_, .i32⟩
  | .hbm, ⟨13, _⟩ => ⟨S1024x32, .i32⟩
  | .hbm, ⟨14, _⟩ => ⟨S1024x32, .i1⟩
  | .hbm, ⟨15, _⟩ => ⟨S_, .i32⟩
  | .hbm, ⟨16, _⟩ => ⟨S1024x32, .i32⟩
  | .hbm, ⟨17, _⟩ => ⟨S1024x32, .i1⟩
  | .hbm, ⟨18, _⟩ => ⟨S1024x32, .i1⟩
  | .hbm, ⟨19, _⟩ => ⟨S_, .f32⟩
  | .hbm, ⟨20, _⟩ => ⟨S_, .f32⟩
  | .hbm, ⟨21, _⟩ => ⟨S1024x32, .f32⟩
  | .hbm, ⟨22, _⟩ => ⟨S1024x32, .f32⟩
  | .hbm, ⟨23, _⟩ => ⟨S1024x32, .f32⟩
  | .hbm, ⟨24, _⟩ => ⟨S1024x32x512, .f32⟩
  | .hbm, ⟨25, _⟩ => ⟨S1024x32x1, .f32⟩
  | .hbm, ⟨26, _⟩ => ⟨S1024x32x1, .f32⟩
  | .hbm, ⟨27, _⟩ => ⟨S1024x32x512, .f32⟩
  | .hbm, ⟨28, _⟩ => ⟨S1024x32x512, .f32⟩
  | .hbm, ⟨29, _⟩ => ⟨S_, .f32⟩
  | .hbm, ⟨30, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_c : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_cst_1 : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Proof.Cells.lean ====
/-
The eight devices' exchange: who signals whom, the buffers and semaphores by name, the contents that travel, and the
schedule of the exchange — for every semaphore cell, which duties fill its one round, what each duty is worth and what it
hands over.

Device `c` computes a block of 104 rows (its four experts' results for the tokens they took) and shares it with the seven
others. Before any copy, every device tells every other that it is ready: a unit on the barrier semaphore. The unit of
device `d` on the barrier of `c` hands `c` the row of `d`'s gathering buffer that `c` will fill. After seven units `c`
copies its block into row `c` of each of the others' buffers; each copy is counted by one send semaphore at home (which
gives the lent share of the block back) and by one receive semaphore at the target (which hands the filled row over).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.ValueLayout
public import Idealize.ShloMosaic.Lib.ViewIndex
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)

variable {F : FTy → Type} [FloatOps F]

/-! ## The resource algebra: the launch's own copy of the rounds, and the exchange's (duties `Fin 7`) -/

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The other seven devices -/

set_option backward.proofsInPublic true in
/-- The device `k + 1` places after `c`. -/
def nb (c : Dev nD) (k : Fin 7) : Dev nD := ⟨(c.val + k.val + 1) % 8, Nat.mod_lt _ (by decide)⟩
set_option backward.proofsInPublic true in
/-- The device `k + 1` places before `c`. -/
def pv (c : Dev nD) (k : Fin 7) : Dev nD := ⟨(c.val + (7 - k.val)) % 8, Nat.mod_lt _ (by decide)⟩

theorem pv_nb (c : Dev nD) (k : Fin 7) : pv (nb c k) k = c := by revert c k; decide
theorem nb_pv (c : Dev nD) (k : Fin 7) : nb (pv c k) k = c := by revert c k; decide
theorem nb_ne (c : Dev nD) (k : Fin 7) : nb c k ≠ c := by revert c k; decide
theorem pv_ne (c : Dev nD) (k : Fin 7) : pv c k ≠ c := by revert c k; decide
theorem nb_inj (c : Dev nD) : Function.Injective (nb c) := by revert c; decide
theorem pv_inj (c : Dev nD) : Function.Injective (pv c) := by revert c; decide

/-- Going `k + 1` places on, a permutation of the devices. -/
def turn (k : Fin 7) : Dev nD ≃ Dev nD := ⟨fun c => nb c k, fun c => pv c k, fun c => pv_nb c k, fun c => nb_pv c k⟩

theorem nb_cover (c : Dev nD) : (Finset.univ : Finset (Dev nD)).erase c = Finset.univ.map ⟨nb c, nb_inj c⟩ := by revert c; decide
theorem pv_cover (c : Dev nD) : (Finset.univ : Finset (Dev nD)).erase c = Finset.univ.map ⟨pv c, pv_inj c⟩ := by revert c; decide

/-- All devices are `c` and the seven after it. -/
theorem around_nb {M : Type} [URA M] (c : Dev nD) (Φ : Dev nD → sProp M) :
    bigSep Finset.univ Φ = iprop(Φ c ∗ bigSep Finset.univ fun k : Fin 7 => Φ (nb c k)) := by
  rw [bigSep_univ_at Φ c, nb_cover, bigSep_map]; rfl
/-- All devices are `c` and the seven before it. -/
theorem around_pv {M : Type} [URA M] (c : Dev nD) (Φ : Dev nD → sProp M) :
    bigSep Finset.univ Φ = iprop(Φ c ∗ bigSep Finset.univ fun k : Fin 7 => Φ (pv c k)) := by
  rw [bigSep_univ_at Φ c, pv_cover, bigSep_map]; rfl

/-! ## Going through the seven one at a time -/

/-- The steps still to come before step `n`. -/
def todo (n : ℕ) : Finset (Fin 7) := Finset.univ.filter fun j => n ≤ j.val
/-- The steps done before step `n`. -/
def done (n : ℕ) : Finset (Fin 7) := Finset.univ.filter fun j => j.val < n

theorem todo_zero : todo 0 = Finset.univ := by decide
theorem done_zero : done 0 = ∅ := by decide
theorem done_seven : done 7 = Finset.univ := by decide
theorem todo_seven : todo 7 = ∅ := by decide
theorem todo_cons (k : Fin 7) : todo k.val = insert k (todo (k.val + 1)) := by revert k; decide
theorem todo_fresh (k : Fin 7) : k ∉ todo (k.val + 1) := by revert k; decide
theorem done_snoc (k : Fin 7) : done (k.val + 1) = insert k (done k.val) := by revert k; decide
theorem done_fresh (k : Fin 7) : k ∉ done k.val := by revert k; decide

theorem bigSep_todo {M : Type} [URA M] (k : Fin 7) (Φ : Fin 7 → sProp M) :
    bigSep (todo k.val) Φ = iprop(Φ k ∗ bigSep (todo (k.val + 1)) Φ) := by
  rw [todo_cons, bigSep_insert (todo_fresh k)]; rfl
theorem bigSep_done {M : Type} [URA M] (k : Fin 7) (Φ : Fin 7 → sProp M) :
    bigSep (done (k.val + 1)) Φ = iprop(Φ k ∗ bigSep (done k.val) Φ) := by
  rw [done_snoc, bigSep_insert (done_fresh k)]; rfl

/-! ## The buffers and the semaphores -/

abbrev xM : Memref sig .tc .vmem S1024x256 .f32 := Memref.whole cc0_stg0_0
abbrev rM : Memref sig .tc .vmem S1024x1 .i32 := Memref.whole cc0_stg1_0
abbrev wM : Memref sig .tc .vmem S4x256x512 .f32 := Memref.whole cc0_stg2_0
abbrev oM : Memref sig .tc .vmem S1024x512 .f32 := Memref.whole cc0_stg3_0
/-- The device's own block, -/
abbrev bM : Memref sig .tc .vmem S104x512 .bf16 := Memref.whole cc0_scratch0
/-- and the gathering buffer of the eight blocks. -/
abbrev gM : Memref sig .tc .vmem S8x104x512 .bf16 := Memref.whole cc0_scratch1
/-- Row `o` of the gathering buffer, as the copies address it. -/
abbrev rowM (o : Dev nD) : Memref sig .tc .vmem S104x512 .bf16 :=
  (gM.slice (Rect.unit (s := S8x104x512) (k0_off1 o) S1x104x512.size (k0_off1_inb o)) (fun _ => rfl)).squeeze S104x512 squeezes_S1x104x512_S104x512

abbrev barS : Sem sig := (SemArray.scalar (sig.barrier 0 rfl) : Sems sig S_).sem
abbrev sendQ (k : Fin 7) : DmaSem sig := (⟨4 + k.val, by omega⟩ : Fin 20)
abbrev recvQ (o : Dev nD) : DmaSem sig := (⟨11 + o.val, by have := o.isLt; simp only [nD] at this; omega⟩ : Fin 20)
abbrev copyQ : DmaSem sig := (⟨19, by omega⟩ : Fin 20)

abbrev barCell (c : Dev nD) : GSem nD τ sig := ((c : Thread nD τ), .reg barS)
abbrev sendCell (c : Dev nD) (k : Fin 7) : GSem nD τ sig := ((c : Thread nD τ), .dma (sendQ k))
abbrev recvCell (c o : Dev nD) : GSem nD τ sig := ((c : Thread nD τ), .dma (recvQ o))
abbrev copyCell (c : Dev nD) : GSem nD τ sig := ((c : Thread nD τ), .dma copyQ)

/-- What one block's copy counts. -/
abbrev N : ℕ := bM.view.dmaCredit
theorem N_pos : 0 < N := View.dmaCredit_pos _ (by decide)

/-! ## Contents -/

/-- What the staged operands hold. -/
def xOf (c : Dev nD) : (cc0_stg0_0 : Ref sig .tc).ty.Contents (Elt F) :=
  (win0_0.blk (0 : Fin 1)).view.read (Elt F) ((s₀ m ρ).mem ((c : Thread nD τ).loc main_arg0))
def rOf (c : Dev nD) : (cc0_stg1_0 : Ref sig .tc).ty.Contents (Elt F) :=
  (win0_1.blk (0 : Fin 1)).view.read (Elt F) ((s₀ m ρ).mem ((c : Thread nD τ).loc main_arg2))
def wOf (c : Dev nD) : (cc0_stg2_0 : Ref sig .tc).ty.Contents (Elt F) :=
  (win0_2.blk (0 : Fin 1)).view.read (Elt F) ((s₀ m ρ).mem ((c : Thread nD τ).loc main_arg3))

/-- The device's number as the kernel computes it. -/
abbrev myWord (c : Dev nD) : BitVec 32 := Scalar.remsi (Scalar.divsi (Dev.word c) 1#32) 8#32

/-- Each token's rank among the tokens routed where it is. -/
def rankOf (r : IVec S1024x1 32) : IVec S1024x1 32 :=
  k0_pay2 (F := F) r (iota .tc S1024x32 32 [1] iota_S1024x32_d1_w32)

/-- The block a device computes: from its number, the tokens, their routes and the device's own experts. -/
def blockOf (w : BitVec 32) (x : Vec F S1024x256 .f32) (r : Vec F S1024x1 .i32) (e : Vec F S4x256x512 .f32) : FVec F S104x512 .bf16 :=
  k0_pay13
    (k0_pay10 (k0_pay5 (rankOf (F := F) (k0_pay1 r)) (k0_pay3 (F := F))) (iota .tc S104x1024 32 [0] iota_S104x1024_d0_w32)
      (k0_pay6 w (k0_pay3 (F := F)) (k0_pay4 (k0_pay1 r)) (constant S8x1024 .f32 0x00000000#32))
      (Scalar.select (Scalar.cmpi .eq 25#32 0#32) 1#32 25#32) k0_pay7 k0_pay8 k0_pay9 0#32 x)
    (iota .tc S104x1024 32 [0] iota_S104x1024_d0_w32) k0_pay11 25#32 k0_pay12 e

/-- Which of the 832 gathered rows each token reads. -/
def pickOf (r : Vec F S1024x1 .i32) : FVec F S1024x832 .bf16 :=
  k0_pay23 (F := F) (k0_pay1 r) (rankOf (F := F) (k0_pay1 r))
    (k0_pay18 (Scalar.select (Scalar.cmpi .eq 104#32 0#32) 1#32 104#32) k0_pay14 k0_pay15 k0_pay16 k0_pay17)
    (k0_pay19 (iota .tc S1024x832 32 [1] iota_S1024x832_d1_w32)) 25#32
    (k0_pay20 (Scalar.select (Scalar.cmpi .eq 104#32 0#32) 1#32 104#32) k0_pay14 k0_pay15 k0_pay16 k0_pay17)
    (k0_pay21 (Scalar.select (Scalar.cmpi .eq 104#32 0#32) 1#32 104#32) k0_pay14 k0_pay15 k0_pay16 k0_pay17) k0_pay22

/-- Device `c`'s block. -/
def blk (c : Dev nD) : (cc0_scratch0 : Ref sig .tc).ty.Contents (Elt F) := blockOf (myWord c) (xOf m ρ c) (rOf m ρ c) (wOf m ρ c)

/-- The eight blocks gathered: row `o` is device `o`'s block. -/
def gathered : (cc0_scratch1 : Ref sig .tc).ty.Contents (Elt F) := fun i => blk m ρ (i 0) (ix2 (i 1) (i 2))

/-- The kernel's result on device `c`. -/
def outOf (c : Dev nD) : (cc0_stg3_0 : Ref sig .tc).ty.Contents (Elt F) := k0_pay24 (pickOf (F := F) (rOf m ρ c)) (gathered m ρ)

/-! ## The rows of the gathering buffer -/

/-- The rectangle of row `o`. -/
abbrev rowR (o : Dev nD) : Rect S8x104x512 := Rect.unit (s := S8x104x512) (k0_off1 o) S1x104x512.size (k0_off1_inb o)

theorem rowM_set (o : Dev nD) : (rowM o).view.set = (rowR o).set :=
  (View.set_reshape _ _).trans (View.set_slice_whole _ _)

/-- The element of the gathering buffer under an index of row `o`. -/
theorem rowM_emb (o : Dev nD) (x : Fin 104) (y : Fin 512) : (rowM o).view.emb (ix2 x y) = ix3 (n0 := 8) o x y := by
  have h : (rowM o).view.emb (ix2 x y) = (rowR o).emb (Shape.reshapeEquiv (s := S1x104x512) (s' := S104x512) squeezes_S1x104x512_S104x512.numel_eq (ix2 x y)) := rfl
  rw [h, show Shape.reshapeEquiv (s := S1x104x512) (s' := S104x512) squeezes_S1x104x512_S104x512.numel_eq (ix2 x y) = ix3 (⟨0, Nat.one_pos⟩ : Fin 1) x y from
    ValueIdx.reshapeEquiv_ix2_1ab _ x y]
  refine funext fun a => Fin.ext ?_
  rw [Rect.emb_apply]
  have e := k0_off1_eq o
  match a with
  | ⟨0, _⟩ => show k0_off1 o 0 + 1 * 0 = o.val; rw [e]; rfl
  | ⟨1, _⟩ => show k0_off1 o 1 + 1 * x.val = x.val; rw [e, Nat.one_mul]; exact Nat.zero_add _
  | ⟨2, _⟩ => show k0_off1 o 2 + 1 * y.val = y.val; rw [e, Nat.one_mul]; exact Nat.zero_add _

/-- An element lies in row `o` exactly when its first coordinate is `o`. -/
theorem mem_row (o d : Dev nD) (x : Fin 104) (y : Fin 512) : ix3 (n0 := 8) d x y ∈ (rowM o).view.set ↔ d = o := by
  refine ⟨fun h => ?_, fun h => ?_⟩
  · obtain ⟨j, -, e⟩ := Finset.mem_map.mp h
    obtain ⟨x', y', rfl⟩ : ∃ (x : Fin 104) (y : Fin 512), j = ix2 x y := ⟨_, _, eq_ix2 j⟩
    rw [rowM_emb] at e
    exact (congrFun e (0 : Fin 3)).symm
  · subst h
    rw [← rowM_emb]; exact View.emb_mem_set _ _

theorem rows_disjoint (o o' : Dev nD) (h : o ≠ o') : Disjoint (rowM o).view.set (rowM o').view.set :=
  Finset.disjoint_left.mpr fun i hi hi' => by
    obtain ⟨d, x, y, rfl⟩ : ∃ (d : Dev nD) (x : Fin 104) (y : Fin 512), i = ix3 (n0 := 8) d x y := ⟨_, _, _, ValueIdx.eq_ix3 i⟩
    exact h (((mem_row o d x y).mp hi).symm.trans ((mem_row o' d x y).mp hi'))

theorem rows_cover : Finset.biUnion (β := S8x104x512.Idx) (Finset.univ : Finset (Dev nD)) (fun o => (rowM o).view.set) = Finset.univ :=
  Finset.eq_univ_iff_forall.mpr fun i => by
    obtain ⟨d, x, y, rfl⟩ : ∃ (d : Dev nD) (x : Fin 104) (y : Fin 512), i = ix3 (n0 := 8) d x y := ⟨_, _, _, ValueIdx.eq_ix3 i⟩
    exact Finset.mem_biUnion.mpr ⟨d, Finset.mem_univ _, (mem_row d d x y).mpr rfl⟩

/-- Row `o` of device `c`'s gathering buffer, at contents `f`. -/
def rowPts (c o : Dev nD) (f : Buf (Elt F) ((rowM o).view.loc (c : Thread nD τ))) : sProp 𝕄 :=
  (rowM o).view.loc (c : Thread nD τ) ↦[(rowM o).view.set]{fullShare} f
/-- Device `c`'s block, at share `q`. -/
def blkPts (c : Dev nD) (q : PosShare TreeShare) : sProp 𝕄 :=
  (bM).view.loc (c : Thread nD τ) ↦[(bM).view.set]{q} blk m ρ c

omit [FloatOps F] in
instance rowPts_storable (c o : Dev nD) (f) : BI.Storable (upEmb : UEmb _ 𝕄) (rowPts (F := F) c o f) := by unfold rowPts; infer_instance
instance blkPts_storable (c : Dev nD) (q) : BI.Storable (upEmb : UEmb _ 𝕄) (blkPts (F := F) m ρ c q) := by unfold blkPts; infer_instance

omit [FloatOps F] in
/-- The gathering buffer is its eight rows. -/
theorem buffer_rows (c : Dev nD) (f : Buf (Elt F) ((c : Thread nD τ).loc cc0_scratch1)) :
    (((c : Thread nD τ).loc cc0_scratch1) ↦{fullShare} f : sProp 𝕄) = bigSep Finset.univ fun o : Dev nD => rowPts c o f := by
  unfold rowPts
  rw [← pointsTo_biUnion (ℓ := (c : Thread nD τ).loc cc0_scratch1) Finset.univ (fun o : Dev nD => (rowM o).view.set)
    (fun o _ o' _ h => rows_disjoint o o' h)]
  exact congrArg (fun I => (((c : Thread nD τ).loc cc0_scratch1) ↦[I]{fullShare} f : sProp 𝕄)) rows_cover.symm

/-- A row written with device `o`'s block holds what the gathered buffer holds there. -/
theorem row_filled (c o : Dev nD) (f : Buf (Elt F) ((rowM o).view.loc (c : Thread nD τ))) :
    rowPts c o ((rowM o).view.write (Elt F) f ((bM).view.read (Elt F) (blk m ρ o)) Finset.univ) = rowPts c o (gathered m ρ) := by
  unfold rowPts
  refine pointsTo_congr fun i hi => ?_
  obtain ⟨j, -, rfl⟩ := Finset.mem_map.mp hi
  obtain ⟨x, y, rfl⟩ : ∃ (x : Fin 104) (y : Fin 512), j = ix2 x y := ⟨_, _, eq_ix2 j⟩
  refine (View.write_emb_of_mem _ _ (Finset.mem_univ _)).trans ?_
  rw [rowM_emb]
  exact congrFun (show (bM).view.read (Elt F) (blk m ρ o) = blk m ρ o from View.read_whole _ _) (ix2 x y)

/-- The share of the block the transfer to the `k + 1`-st next device borrows (`k = 7`: the copy into the own row). -/
abbrev lent (k : Fin 8) : PosShare TreeShare := ShareLeaves.leaf 3 fullShare k

/-- The device's block is lent in eight shares. -/
theorem block_shares (c : Dev nD) :
    (((c : Thread nD τ).loc cc0_scratch0) ↦{fullShare} blk m ρ c : sProp 𝕄)
      = iprop(blkPts m ρ c (lent 7) ∗ bigSep Finset.univ fun k : Fin 7 => blkPts m ρ c (lent k.castSucc)) := by
  unfold blkPts
  rw [show (bM).view.set = Finset.univ from View.set_whole _]
  refine (ShareLeaves.pointsTo_leaves (ℓ := (c : Thread nD τ).loc cc0_scratch0) Finset.univ (blk m ρ c) 3 fullShare).trans ?_
  rw [bigSep_univ_at (fun i : Fin (2 ^ 3) => (((c : Thread nD τ).loc cc0_scratch0) ↦[Finset.univ]{ShareLeaves.leaf 3 fullShare i} blk m ρ c : sProp 𝕄)) (7 : Fin 8),
    show (Finset.univ : Finset (Fin (2 ^ 3))).erase (7 : Fin 8) = Finset.univ.map ⟨(Fin.castSucc : Fin 7 → Fin 8), Fin.castSucc_injective _⟩ by decide, bigSep_map]
  rfl

/-! ## The schedule -/

/-- What the unit from `d` on `c`'s barrier hands over: the row of `d`'s gathering buffer that `c` fills. -/
def barPay (c d : Dev nD) : sProp 𝕄 := iprop(∃ f, rowPts (F := F) d c f)
/-- What the copy into the own row hands back. -/
def copyPay (c : Dev nD) : sProp 𝕄 := iprop(rowPts c c (gathered m ρ) ∗ blkPts m ρ c (lent 7))

/-- The duties of a cell of device `c`: seven on the barrier; one on every transfer semaphore except the receive
    semaphore of the device itself, which nothing signals. -/
def dutiesAt (c : Dev nD) : SemLoc sig → Finset (Fin 7)
  | .reg _ => Finset.univ
  | .dma q => if q = recvQ c then ∅ else {0}
/-- What a duty is worth. -/
def amountAt : SemLoc sig → ℕ
  | .reg _ => 1
  | .dma _ => N
/-- What a duty hands over. -/
def payAt (c : Dev nD) : SemLoc sig → Fin 7 → sProp 𝕄
  | .reg _, d => barPay c (pv c d)
  | .dma (q : Fin 20), _ =>
    if h : 11 ≤ q.val ∧ q.val < 19 then rowPts c (⟨q.val - 11, by omega⟩ : Fin 8) (gathered m ρ)
    else if h : 4 ≤ q.val ∧ q.val < 11 then blkPts m ρ c (lent (⟨q.val - 4, by omega⟩ : Fin 7).castSucc)
    else if q.val = 19 then copyPay m ρ c else iprop(emp)

/-- The exchange: one round of every cell. -/
def exRd : Rounds.Schedule (GSem nD τ sig) (Fin 7) 𝕄 where
  duties g r := if r = 0 ∧ g.1.2 = .tc then dutiesAt g.1.1 g.2 else ∅
  unitless _ := False
  amount g _ _ := amountAt g.2
  payload g _ d := payAt m ρ g.1.1 g.2 d
  amount_pos g _ _ _ := by
    obtain ⟨_, _ | _⟩ := g
    · exact Nat.one_pos
    · exact N_pos

instance exRd_payload_storable (g : GSem nD τ sig) (r : ℕ) (d : Fin 7) : BI.Storable (upEmb : UEmb _ 𝕄) ((exRd (F := F) m ρ).payload g r d) := by
  obtain ⟨t, _ | q⟩ := g
  · show BI.Storable upEmb (barPay t.1 (pv t.1 d)); unfold barPay; infer_instance
  · dsimp only [exRd, payAt]; unfold copyPay
    (repeat' split) <;> infer_instance

section Sched
variable (c : Dev nD)

theorem duties_bar : (exRd (F := F) m ρ).duties (barCell c) 0 = Finset.univ := by
  dsimp only [exRd]
  exact if_pos ⟨rfl, rfl⟩
theorem duties_dma (q : DmaSem sig) (h : q ≠ recvQ c) : (exRd (F := F) m ρ).duties ((c : Thread nD τ), .dma q) 0 = {0} := by
  dsimp only [exRd]
  exact (if_pos ⟨rfl, rfl⟩).trans (if_neg h)
theorem duties_own : (exRd (F := F) m ρ).duties (recvCell c c) 0 = ∅ := by
  dsimp only [exRd]
  exact (if_pos ⟨rfl, rfl⟩).trans (if_pos rfl)
theorem duties_later (g : GSem nD τ sig) : ∀ r, 1 ≤ r → (exRd (F := F) m ρ).duties g r = ∅ := fun r hr => if_neg fun h => by omega
theorem duties_own_later : ∀ r, 0 ≤ r → (exRd (F := F) m ρ).duties (recvCell c c) r = ∅
  | 0, _ => duties_own m ρ c
  | r + 1, _ => duties_later m ρ _ _ (Nat.le_add_left _ _)

theorem sendQ_ne (k : Fin 7) : sendQ k ≠ recvQ c := by revert c k; decide
theorem recvQ_ne (o : Dev nD) (h : o ≠ c) : recvQ o ≠ recvQ c := by revert c o; decide
theorem copyQ_ne : copyQ ≠ recvQ c := by revert c; decide

theorem expect_bar : (exRd (F := F) m ρ).expect (barCell c) 0 = 7 := by
  unfold Schedule.expect Schedule.amountOf
  rw [duties_bar]; exact (Finset.sum_const 1).trans (by decide)
theorem expect_dma (q : DmaSem sig) (h : q ≠ recvQ c) : (exRd (F := F) m ρ).expect ((c : Thread nD τ), .dma q) 0 = N := by
  unfold Schedule.expect Schedule.amountOf; rw [duties_dma m ρ c q h, Finset.sum_singleton]; rfl

theorem payload_bar (d : Fin 7) : (exRd (F := F) m ρ).payload (barCell c) 0 d = barPay c (pv c d) := rfl
theorem payload_send (k d : Fin 7) : (exRd (F := F) m ρ).payload (sendCell c k) 0 d = blkPts m ρ c (lent k.castSucc) := by
  show payAt m ρ c (.dma (sendQ k)) d = _
  unfold payAt
  refine (dif_neg (by show ¬(11 ≤ 4 + k.val ∧ _); omega)).trans ((dif_pos (by show 4 ≤ 4 + k.val ∧ 4 + k.val < 11; omega)).trans ?_)
  congr 3; exact Fin.ext (Nat.add_sub_cancel_left 4 k.val)
theorem pay_recv (q : Fin 20) (o : Fin 8) (h : q.val = 11 + o.val) (d : Fin 7) : payAt m ρ c (.dma q) d = rowPts c o (gathered m ρ) := by
  unfold payAt
  refine (dif_pos (by omega)).trans ?_
  have e : (⟨q.val - 11, by omega⟩ : Fin 8) = o := Fin.ext (by show q.val - 11 = o.val; omega)
  exact congrArg (fun o : Dev nD => rowPts c o (gathered m ρ)) e
theorem payload_recv (o : Dev nD) (d : Fin 7) : (exRd (F := F) m ρ).payload (recvCell c o) 0 d = rowPts c o (gathered m ρ) :=
  pay_recv m ρ c (recvQ o) o rfl d
theorem pay_last (q : Fin 20) (h : q.val = 19) (d : Fin 7) : payAt m ρ c (.dma q) d = copyPay m ρ c := by
  unfold payAt
  exact (dif_neg (by omega)).trans ((dif_neg (by omega)).trans (if_pos h))
theorem payload_copy (d : Fin 7) : (exRd (F := F) m ρ).payload (copyCell c) 0 d = copyPay m ρ c :=
  pay_last m ρ c copyQ rfl d

end Sched

/-! ## What each device owes at launch; the levels -/

/-- The blocks still to send before step `n`: a copy's credit on each later target's receive cell. -/
def owedSends (c : Dev nD) (n : ℕ) : CellTallies nD τ sig Unit := ∑ k ∈ todo n, tallyAt (recvCell (nb c k) c) () N
/-- The barrier units still to give before step `n`. -/
def owedUnits (c : Dev nD) (n : ℕ) : CellTallies nD τ sig Unit := ∑ k ∈ todo n, tallyAt (barCell (nb c k)) () 1
def O₀ (c : Dev nD) : CellTallies nD τ sig Unit := owedSends c 0 + owedUnits c 0

theorem owedSends_step (c : Dev nD) (k : Fin 7) : owedSends c k.val = owedSends c (k.val + 1) + tallyAt (recvCell (nb c k) c) () N := by
  unfold owedSends; rw [todo_cons, Finset.sum_insert (todo_fresh k), add_comm]
theorem owedUnits_step (c : Dev nD) (k : Fin 7) : owedUnits c k.val = owedUnits c (k.val + 1) + tallyAt (barCell (nb c k)) () 1 := by
  unfold owedUnits; rw [todo_cons, Finset.sum_insert (todo_fresh k), add_comm]
theorem owedSends_end (c : Dev nD) : owedSends c 7 = 0 := by unfold owedSends; rw [todo_seven, Finset.sum_empty]
theorem owedUnits_end (c : Dev nD) : owedUnits c 7 = 0 := by unfold owedUnits; rw [todo_seven, Finset.sum_empty]

def L (g : GSem nD τ sig) : Finset Unit := if g.1.2 = .tc then {()} else ∅
/-- The order of waiting: barrier cells before receive cells, everything else before both. -/
def lvAt : SemLoc sig → ℕ
  | .reg _ => 1
  | .dma (q : Fin 20) => if 11 ≤ q.val ∧ q.val < 19 then 2 else 0
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c o : Dev nD) : lv (recvCell c o) () = 2 :=
  if_pos (by have ho : o.val < 8 := o.isLt; show 11 ≤ 11 + o.val ∧ 11 + o.val < 19; omega)

/-- A sum of tallies is positive only where one of them is. -/
theorem tally_pos {S : Finset (Fin 7)} {G : Fin 7 → GSem nD τ sig} {n : ℕ} {g : GSem nD τ sig} {u : Unit}
    (h : 0 < (∑ k ∈ S, tallyAt (nD := nD) (τ := τ) (sig := sig) (G k) () n) g u) : ∃ k, g = G k := by
  induction S using Finset.induction_on with
  | empty => rw [Finset.sum_empty] at h; exact absurd h (Nat.lt_irrefl 0)
  | insert k S hk ih =>
    rw [Finset.sum_insert hk, Pi.add_apply, Finsupp.add_apply, tallyAt_apply] at h
    by_cases hg : g = G k ∧ u = ()
    · exact ⟨k, hg.1⟩
    · rw [if_neg hg, Nat.zero_add] at h; exact ih h

theorem owedSends_pos {c : Dev nD} {n : ℕ} {g : GSem nD τ sig} {u : Unit} (h : 0 < owedSends c n g u) : ∃ k, g = recvCell (nb c k) c := tally_pos h
theorem O₀_pos {c : Dev nD} {g : GSem nD τ sig} {u : Unit} (h : 0 < O₀ c g u) :
    ∃ k, g = recvCell (nb c k) c ∨ g = barCell (nb c k) := by
  unfold O₀ at h
  rw [Pi.add_apply, Finsupp.add_apply] at h
  rcases Nat.eq_zero_or_pos (owedSends c 0 g u) with h0 | h0
  · rw [h0, Nat.zero_add] at h
    obtain ⟨k, hk⟩ := tally_pos h; exact ⟨k, .inr hk⟩
  · obtain ⟨k, hk⟩ := tally_pos h0; exact ⟨k, .inl hk⟩

omit [FloatOps F] in
/-- A staging copy may be waited for at launch: everything owed lies above it. -/
theorem mayWait_stage (c : Dev nD) (q : DmaSem sig) (hq : lvAt (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, rfl | rfl⟩ := O₀_pos hg <;> exact Finset.mem_singleton_self _)
      (fun p hp => by rw [Finset.mem_singleton.mp hp]; exact hq.le)
      (fun g u hg => by
        obtain ⟨k, rfl | rfl⟩ := O₀_pos hg
        · rw [lv_recv]; decide
        · exact Nat.one_pos)
  · rw [MayWait_zero]; iintro -; iempintro

omit [FloatOps F] in
/-- At its barrier wait a device owes copies only, whose receive cells lie above its barrier. -/
theorem mayWait_bar (c : Dev nD) : (levAts L lv : sProp 𝕄) ⊢ MayWait (c : Thread nD τ) (.reg barS) () (owedSends c 0) :=
  MayOwe.of_cut (L := L) (lev := lv) 1 (fun p hp => by rw [Finset.mem_singleton.mp hp, L_tc]; exact Finset.mem_singleton_self _)
    (fun g u hg => by obtain ⟨k, rfl⟩ := owedSends_pos hg; exact Finset.mem_singleton_self _)
    (fun p hp => by rw [Finset.mem_singleton.mp hp]; exact le_refl 1)
    (fun g u hg => by obtain ⟨k, rfl⟩ := owedSends_pos hg; rw [lv_recv]; decide)

end Cert.Exchange

end
-- ==== Proof.Steps.lean ====
/-
The steps of one device's exchange, each as a rule for one operation of the kernel: a barrier unit given, a block sent, a
transfer waited for and its cell closed. The seven of each kind are gone through with the same rule.
-/
module

public import proofs.«01_k».proof.Proof.Cells

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## All cells, and what every device knows of them -/

/-- The transfer semaphores of a device: the sends', the receives', the own copy's. -/
abbrev Own : Type := Fin 7 ⊕ (Dev nD ⊕ Unit)
/-- All of its semaphores: the barrier's, and those. -/
abbrev Sm : Type := Unit ⊕ Own

def ownQ : Own → DmaSem sig
  | .inl k => sendQ k
  | .inr (.inl o) => recvQ o
  | .inr (.inr _) => copyQ
def semOf : Sm → SemLoc sig
  | .inl _ => .reg barS
  | .inr j => .dma (ownQ j)
abbrev cellAt (p : Dev nD × Sm) : GSem nD τ sig := ((p.1 : Thread nD τ), semOf p.2)

variable (K : Dev nD × Sm → ℕ)

/-- Every cell follows the exchange, and has reached its round. -/
def records : sProp 𝕄 :=
  iprop((bigSep Finset.univ fun p : Dev nD × Sm => cellInv EX (exRd m ρ) (K p) (cellAt p))
    ∗ bigSep Finset.univ fun p : Dev nD × Sm => reached EX (cellAt p) 0)

instance records_persistent : BI.Persistent (records m ρ K) := by unfold records; infer_instance

/-- One cell's share of the records. -/
theorem record_at (p : Dev nD × Sm) : records m ρ K ⊢ iprop(cellInv EX (exRd m ρ) (K p) (cellAt p) ∗ reached EX (cellAt p) 0) :=
  BI.sep_mono (bigSep_elim (Finset.mem_univ p)) (bigSep_elim (Finset.mem_univ p))

/-- What a device owes, whatever it has waited for. -/
def ow (c : Dev nD) (O : CellTallies nD τ sig Unit) : sProp 𝕄 := iprop(∃ W : Waits sig Unit, owes (c : Thread nD τ) O W)

abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Giving the barrier units -/

/-- Before the `n`-th unit: those still owed, their duties and the rows they hand over. -/
def unitsAt (c : Dev nD) (n : ℕ) : sProp 𝕄 :=
  iprop(ow c (owedSends c 0 + owedUnits c n)
    ∗ bigSep (todo n) fun k => iprop(dutyTok EX (barCell (nb c k)) 0 k ∗ ∃ f, rowPts (F := F) c (nb c k) f))

/-- One unit, to the device `k + 1` places on, with the row of the own buffer that device fills. -/
theorem unit_step (c n : Dev nD) (k : Fin 7) (hn : n = nb c k) (w : ℕ) (hw : w = 1) {α : Type} {Q : α → sProp 𝕄}
    {p : PUnit → Prog (TpuEff nD τ sig (Elt F) Λ₀ .tc) α} :
    iprop(records m ρ K ∗ unitsAt c k.val)
      ⊢ iprop((unitsAt c (k.val + 1) -∗ run c (p ⟨⟩) Q) -∗ run c (.op (.semSignal (n : Thread nD τ) barS w) p) Q) := by
  subst hn hw
  unfold unitsAt ow
  rw [bigSep_todo k]
  iintro ⟨#Hrec, ⟨%W, HO⟩, ⟨Htok, Hrow⟩, Hrest⟩ Hk
  ihave Hr := (record_at m ρ K (nb c k, .inl ())) $$ Hrec
  icases Hr with ⟨HI, Hre⟩
  iapply (Rounds.wp_signal 𝒱₀ EX (exRd m ρ) (c : Thread nD τ) none (dst := (nb c k : Thread nD τ)) (κ := K (nb c k, .inl ())) (sem := barS)
      (r := 0) (d := k) (k' := 1) (by rw [duties_bar]; exact Finset.mem_univ _) rfl () (O₀ := owedSends c 0 + owedUnits c k.val)
      (owedSends c 0 + owedUnits c (k.val + 1))
      (by rw [owedUnits_step, ← add_assoc])) $$ [HI HO Htok Hrow Hre]
  · isplitl [HI]; · iexact HI
    isplitl [HO]; · iexact HO
    isplitl [Htok]; · iexact Htok
    isplitl [Hrow]; · rw [payload_bar, pv_nb]; unfold barPay; iexact Hrow
    iexact Hre
  iintro HO
  iapply Hk
  isplitl [HO]; · iexists W; iexact HO
  iexact Hrest

/-! ## Sending the block -/

/-- Before the `n`-th transfer: the credits still owed; the duties, the shares of the block and the targets' rows for the
    transfers to come; and for those issued, the right to wait for the lent share. -/
def sendsAt (c : Dev nD) (n : ℕ) : sProp 𝕄 :=
  iprop(ow c (owedSends c n)
    ∗ (bigSep (todo n) fun k => iprop(dutyTok EX (recvCell (nb c k) c) 0 0 ∗ dutyTok EX (sendCell c k) 0 0
        ∗ blkPts m ρ c (lent k.castSucc) ∗ ∃ f, rowPts (F := F) (nb c k) c f))
    ∗ bigSep (done n) fun k => cred (tallyAt (sendCell c k) () N))

/-- One transfer, of the block into row `c` of the buffer of the device `k + 1` places on. -/
theorem send_step (c n : Dev nD) (k : Fin 7) (hn : n = nb c k) (s r : DmaSem sig) (hs : s = sendQ k) (hr : r = recvQ c)
    {hsc : (rowM c : Memref sig (Dev.tc n : Thread nD τ).2.kind .vmem S104x512 .bf16).view.ref.isScScratch = false}
    {hsrc : (bM).view.WordExact} {hdst : (rowM c : Memref sig (Dev.tc n : Thread nD τ).2.kind .vmem S104x512 .bf16).view.WordExact}
    {hsem : DmaTarget.Typed .vmem (.dma r) (.remote (Dev.tc n : Thread nD τ) (rowM c : Memref sig (Dev.tc n : Thread nD τ).2.kind .vmem S104x512 .bf16) (.dma s) hsc)}
    {α : Type} {Q : α → sProp 𝕄} {p : PUnit → Prog (TpuEff nD τ sig (Elt F) Λ₀ .tc) α} :
    iprop(records m ρ K ∗ sendsAt m ρ c k.val)
      ⊢ iprop((sendsAt m ρ c (k.val + 1) -∗ run c (p ⟨⟩) Q)
          -∗ run c (.op (.enqueueDma bM (.remote (Dev.tc n : Thread nD τ) (rowM c) (.dma s) hsc) (.dma r) hsrc hdst hsem) p) Q) := by
  subst hn hs hr
  unfold sendsAt ow
  rw [bigSep_todo k, bigSep_done k]
  iintro ⟨#Hrec, ⟨%W, HO⟩, ⟨⟨HtR, HtS, Hb, ⟨%f, Hrow⟩⟩, Hrest⟩, Hdone⟩ Hk
  ihave Hr := (record_at m ρ K (c, .inr (.inl k))) $$ Hrec
  icases Hr with ⟨HIs, Hres⟩
  ihave Hr := (record_at m ρ K (nb c k, .inr (.inr (.inl c)))) $$ Hrec
  icases Hr with ⟨HIr, Hrer⟩
  iapply (Rounds.wp_send_pointsTo 𝒱₀ EX (exRd m ρ) (c : Thread nD τ) none (κ₁ := K (c, .inr (.inl k))) (κ₂ := K (nb c k, .inr (.inr (.inl c))))
      (r₁ := 0) (r₂ := 0) (d₁ := 0) (d₂ := 0) (q := lent k.castSucc) (fs := blk m ρ c) (fd := f)
      (by rw [duties_dma _ _ _ _ (sendQ_ne c k)]; exact Finset.mem_singleton_self _)
      (by rw [duties_dma _ _ _ _ (recvQ_ne (nb c k) c (nb_ne c k).symm)]; exact Finset.mem_singleton_self _)
      () () N rfl rfl rfl (owedSends c (k.val + 1)) (owedSends_step c k) (W := W)
      (by rw [payload_send]; exact BI.Entails.refl _)
      (by rw [payload_recv]; exact Entails.of_eq (row_filled m ρ (nb c k) c f))) $$ [HIs HIr Hb Hrow HO HtS Hres HtR Hrer]
  · isplitl [HIs]; · iexact HIs
    isplitl [HIr]; · iexact HIr
    isplitl [Hb]; · unfold blkPts; iexact Hb
    isplitl [Hrow]; · unfold rowPts; iexact Hrow
    isplitl [HO]; · iexact HO
    isplitl [HtS]; · iexact HtS
    isplitl [Hres]; · iexact Hres
    isplitl [HtR]; · iexact HtR
    iexact Hrer
  iintro ⟨Hc, HO⟩
  iapply Hk
  isplitl [HO]; · iexists W; iexact HO
  isplitl [Hrest]; · iexact Hrest
  isplitl [Hc]; · iexact Hc
  iexact Hdone

/-! ## Waiting for a transfer -/

/-- A transfer waited for: its payload is the device's, and its cell is closed. Nothing is owed by then. -/
theorem wait_close (c : Dev nD) (j : Own) (hj : ownQ j ≠ recvQ c) (q : DmaSem sig) (hq : q = ownQ j)
    {sp sp' : Space} {s s' : Shape} {e e' : EltTy}
    {src : Memref sig (c : Thread nD τ).2.kind sp' s' e'} {κ' : Kind} {dst : Memref sig κ' sp s e} {hsrc : src.view.WordExact} {hdst : dst.view.WordExact}
    (hN : dst.view.dmaCredit = N)
    {α : Type} {Q : α → sProp 𝕄} {p : PUnit → Prog (TpuEff nD τ sig (Elt F) Λ₀ .tc) α} :
    iprop(records m ρ K ∗ ow c 0 ∗ cred (tallyAt ((c : Thread nD τ), .dma (ownQ j)) () N) ∗ atPos EX ((c : Thread nD τ), .dma (ownQ j)) 0 ∅ 0)
      ⊢ iprop(((ow c 0 ∗ semVal ((c : Thread nD τ), .dma (ownQ j)) 0 ∗ (exRd m ρ).payload ((c : Thread nD τ), .dma (ownQ j)) 0 0) -∗ run c (p ⟨⟩) Q)
          -∗ run c (.op (.waitDma2 q src dst hsrc hdst) p) Q) := by
  subst hq
  unfold ow
  iintro ⟨#Hrec, ⟨%W, HO⟩, Hc, Hat⟩ Hk
  ihave Hr := (record_at m ρ K (c, .inr j)) $$ Hrec
  icases Hr with ⟨#HI, -⟩
  iapply (Rounds.wp_wait_rest_token 𝒱₀ EX (exRd m ρ) (c : Thread nD τ) none (κ := K (c, .inr j)) (sm := .dma (ownQ j)) (k' := N)
      (fun P => by rw [← hN]; exact wpE_waitDma2_eq 𝒱₀ (c : Thread nD τ) none Set.univ P) (Set.mem_univ _) () (O := 0) (W := W) (R := 0) (m := 0) (T := ∅)
      (by rw [expect_dma _ _ _ _ hj, Nat.zero_add])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close EX (exRd m ρ) (Set.mem_univ (K (c, .inr j))) (fun h => h) (R := 0 + 1) (duties_later m ρ _)) $$ [Hat] with Hz
  · isplitr; · iexact HI
    iexact Hat
  iapply Hk
  isplitl [HO]; · iexists _; iexact HO
  isplitl [Hz]; · iexact Hz
  ihave Hp := (Entails.of_eq (show bigSep ((exRd m ρ).duties ((c : Thread nD τ), .dma (ownQ j)) 0 \ ∅) (fun d => (exRd m ρ).payload ((c : Thread nD τ), .dma (ownQ j)) 0 d)
    = (exRd m ρ).payload ((c : Thread nD τ), .dma (ownQ j)) 0 0 by rw [Finset.sdiff_empty, duties_dma _ _ _ _ hj, bigSep_singleton])) $$ Hpay
  iexact Hp

/-- Before the `n`-th receive is waited for. -/
def recvsAt (c : Dev nD) (n : ℕ) : sProp 𝕄 :=
  iprop(ow c 0
    ∗ (bigSep (todo n) fun k => iprop(cred (tallyAt (recvCell c (pv c k)) () N) ∗ atPos EX (recvCell c (pv c k)) 0 ∅ 0))
    ∗ bigSep (done n) fun k => iprop(semVal (recvCell c (pv c k)) 0 ∗ rowPts c (pv c k) (gathered m ρ)))

/-- The block of the device `k + 1` places before arrives. -/
theorem recv_step (c : Dev nD) (k : Fin 7) (q : DmaSem sig) (hq : q = recvQ (pv c k))
    {sp sp' : Space} {s s' : Shape} {e e' : EltTy}
    {src : Memref sig (c : Thread nD τ).2.kind sp' s' e'} {κ' : Kind} {dst : Memref sig κ' sp s e} {hsrc : src.view.WordExact} {hdst : dst.view.WordExact}
    (hN : dst.view.dmaCredit = N)
    {α : Type} {Q : α → sProp 𝕄} {p : PUnit → Prog (TpuEff nD τ sig (Elt F) Λ₀ .tc) α} :
    iprop(records m ρ K ∗ recvsAt m ρ c k.val)
      ⊢ iprop((recvsAt m ρ c (k.val + 1) -∗ run c (p ⟨⟩) Q) -∗ run c (.op (.waitDma2 q src dst hsrc hdst) p) Q) := by
  unfold recvsAt
  rw [bigSep_todo k, bigSep_done k]
  iintro ⟨#Hrec, HO, ⟨⟨Hc, Hat⟩, Hrest⟩, Hdone⟩ Hk
  iapply (wait_close m ρ K c (.inr (.inl (pv c k))) (recvQ_ne c (pv c k) (pv_ne c k)) q hq hN) $$ [HO Hc Hat]
  · isplitr; · iexact Hrec
    isplitl [HO]; · iexact HO
    isplitl [Hc]; · iexact Hc
    iexact Hat
  iintro ⟨HO, Hz, Hpay⟩
  iapply Hk
  isplitl [HO]; · iexact HO
  isplitl [Hrest]; · iexact Hrest
  isplitl [Hz Hpay]
  · isplitl [Hz]; · iexact Hz
    ihave Hp := (Entails.of_eq (show (exRd m ρ).payload ((c : Thread nD τ), .dma (ownQ (.inr (.inl (pv c k))))) 0 0 = _ from payload_recv m ρ c (pv c k) 0)) $$ Hpay
    iexact Hp
  iexact Hdone

/-- Before the `n`-th send is waited for. -/
def backAt (c : Dev nD) (n : ℕ) : sProp 𝕄 :=
  iprop(ow c 0
    ∗ (bigSep (todo n) fun k => iprop(cred (tallyAt (sendCell c k) () N) ∗ atPos EX (sendCell c k) 0 ∅ 0))
    ∗ bigSep (done n) fun k => iprop(semVal (sendCell c k) 0 ∗ blkPts m ρ c (lent k.castSucc)))

/-- The share lent to the `k`-th transfer comes back. -/
theorem back_step (c : Dev nD) (k : Fin 7) (q : DmaSem sig) (hq : q = sendQ k)
    {sp sp' : Space} {s s' : Shape} {e e' : EltTy}
    {src : Memref sig (c : Thread nD τ).2.kind sp' s' e'} {κ' : Kind} {dst : Memref sig κ' sp s e} {hsrc : src.view.WordExact} {hdst : dst.view.WordExact}
    (hN : dst.view.dmaCredit = N)
    {α : Type} {Q : α → sProp 𝕄} {p : PUnit → Prog (TpuEff nD τ sig (Elt F) Λ₀ .tc) α} :
    iprop(records m ρ K ∗ backAt m ρ c k.val)
      ⊢ iprop((backAt m ρ c (k.val + 1) -∗ run c (p ⟨⟩) Q) -∗ run c (.op (.waitDma2 q src dst hsrc hdst) p) Q) := by
  unfold backAt
  rw [bigSep_todo k, bigSep_done k]
  iintro ⟨#Hrec, HO, ⟨⟨Hc, Hat⟩, Hrest⟩, Hdone⟩ Hk
  iapply (wait_close m ρ K c (.inl k) (sendQ_ne c k) q hq hN) $$ [HO Hc Hat]
  · isplitr; · iexact Hrec
    isplitl [HO]; · iexact HO
    isplitl [Hc]; · iexact Hc
    iexact Hat
  iintro ⟨HO, Hz, Hpay⟩
  iapply Hk
  isplitl [HO]; · iexact HO
  isplitl [Hrest]; · iexact Hrest
  isplitl [Hz Hpay]
  · isplitl [Hz]; · iexact Hz
    ihave Hp := (Entails.of_eq (show (exRd m ρ).payload ((c : Thread nD τ), .dma (ownQ (.inl k))) 0 0 = _ from payload_send m ρ c k 0)) $$ Hpay
    iexact Hp
  iexact Hdone

end Cert.Exchange

end
-- ==== Proof.Body.lean ====
/-
One device's run of the kernel, from what it holds at launch to what it holds at the end, operation by operation.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's device numbers and semaphores are the exchange's -/

section Names
variable (c : Dev nD)

theorem dev1 : (⟨k0_dev1 c, k0_dev1_lt c⟩ : Dev nD) = nb c 0 := by revert c; decide +kernel
theorem dev2 : (⟨k0_dev2 c, k0_dev2_lt c⟩ : Dev nD) = nb c 1 := by revert c; decide +kernel
theorem dev3 : (⟨k0_dev3 c, k0_dev3_lt c⟩ : Dev nD) = nb c 2 := by revert c; decide +kernel
theorem dev4 : (⟨k0_dev4 c, k0_dev4_lt c⟩ : Dev nD) = nb c 3 := by revert c; decide +kernel
theorem dev5 : (⟨k0_dev5 c, k0_dev5_lt c⟩ : Dev nD) = nb c 4 := by revert c; decide +kernel
theorem dev6 : (⟨k0_dev6 c, k0_dev6_lt c⟩ : Dev nD) = nb c 5 := by revert c; decide +kernel
theorem dev7 : (⟨k0_dev7 c, k0_dev7_lt c⟩ : Dev nD) = nb c 6 := by revert c; decide +kernel
theorem dev8 : (⟨k0_dev8 c, k0_dev8_lt c⟩ : Dev nD) = nb c 0 := by revert c; decide +kernel
theorem dev9 : (⟨k0_dev9 c, k0_dev9_lt c⟩ : Dev nD) = nb c 1 := by revert c; decide +kernel
theorem dev10 : (⟨k0_dev10 c, k0_dev10_lt c⟩ : Dev nD) = nb c 2 := by revert c; decide +kernel
theorem dev11 : (⟨k0_dev11 c, k0_dev11_lt c⟩ : Dev nD) = nb c 3 := by revert c; decide +kernel
theorem dev12 : (⟨k0_dev12 c, k0_dev12_lt c⟩ : Dev nD) = nb c 4 := by revert c; decide +kernel
theorem dev13 : (⟨k0_dev13 c, k0_dev13_lt c⟩ : Dev nD) = nb c 5 := by revert c; decide +kernel
theorem dev14 : (⟨k0_dev14 c, k0_dev14_lt c⟩ : Dev nD) = nb c 6 := by revert c; decide +kernel

/-- A send semaphore as the kernel slices it. -/
theorem sendQ_eq (k : Fin 7) (h) : ((cc0_scratch2.slice (Rect.unit (s := S7) ![k.val] S1.size h)).squeeze S_ squeezes_S1_S_).sem = sendQ k := by
  revert k; decide +kernel
/-- The receive semaphore at the other devices that counts this one's block. -/
theorem recvQ_eq : ((cc0_scratch3.slice (Rect.unit (s := S8) (k0_off2 c) S1.size (k0_off2_inb c))).squeeze S_ squeezes_S1_S_).sem = recvQ c := by
  revert c; decide +kernel
theorem off3_eq (k : Fin 7) : k0_off3 c (BitVec.ofNat 32 (1 + k.val)) = ![(pv c k).val] := by revert c k; decide +kernel
/-- A receive semaphore as the kernel slices it. -/
theorem recvQ_at (o : Dev nD) (h) : ((cc0_scratch3.slice (Rect.unit (s := S8) ![o.val] S1.size h)).squeeze S_ squeezes_S1_S_).sem = recvQ o := by
  revert o; decide +kernel
/-- The receive semaphore that counts the block of the device `k + 1` places before. -/
theorem waitQ_eq (k : Fin 7) (w : BitVec 32) (h) (e : w = BitVec.ofNat 32 (1 + k.val)) :
    ((cc0_scratch3.slice (Rect.unit (s := S8) (k0_off3 c w) S1.size h)).squeeze S_ squeezes_S1_S_).sem = recvQ (pv c k) := by
  subst e
  have key : ∀ (off : Fin 1 → ℕ) (h) (_ : off = ![(pv c k).val]), ((cc0_scratch3.slice (Rect.unit (s := S8) off S1.size h)).squeeze S_ squeezes_S1_S_).sem = recvQ (pv c k) :=
    fun off h e => by subst e; exact recvQ_at (pv c k) h
  exact key _ h (off3_eq c k)
/-- A transfer into a row of the gathering buffer counts as much as one of the block. -/
theorem row_credit (off : Fin 3 → ℕ) (h) :
    ((gM.slice (Rect.unit (s := S8x104x512) off S1x104x512.size h) (fun _ => rfl)).squeeze S104x512 squeezes_S1x104x512_S104x512).view.dmaCredit = N := rfl

end Names

/-! ## What a device holds, before and after -/

variable (K : Dev nD × Sm → ℕ)

/-- The positions in its own cells, and the duties it pays: at each of the seven others' barriers and receive cells and
    its own send cells, and at its own copy cell. -/
def holds (c : Dev nD) : sProp 𝕄 :=
  iprop((bigSep Finset.univ fun j : Sm => atPos EX (cellAt (c, j)) 0 ∅ 0)
    ∗ (bigSep Finset.univ fun k : Fin 7 => dutyTok EX (barCell (nb c k)) 0 k)
    ∗ (bigSep Finset.univ fun k : Fin 7 => dutyTok EX (recvCell (nb c k) c) 0 0)
    ∗ (bigSep Finset.univ fun k : Fin 7 => dutyTok EX (sendCell c k) 0 0)
    ∗ dutyTok EX (copyCell c) 0 0)

/-- The rights to wait that the others' debts give: the seven units of its barrier, and a block from each of the seven. -/
def rights (c : Dev nD) : sProp 𝕄 :=
  iprop(cred (tallyAt (barCell c) () 7) ∗ bigSep Finset.univ fun k : Fin 7 => cred (tallyAt (recvCell c (pv c k)) () N))

/-- A scratch buffer, whole, at some contents. -/
def scrap (c : Dev nD) (b : Ref sig .tc) : sProp 𝕄 := iprop(∃ f : Buf (Elt F) ((c : Thread nD τ).loc b), ((c : Thread nD τ).loc b) ↦{fullShare} f)

def Φ₀ (c : Dev nD) : sProp 𝕄 :=
  iprop((∃ K, records m ρ K ∗ holds c) ∗ rights c ∗ levAts L lv ∗ scrap c cc0_scratch0 ∗ scrap c cc0_scratch1)
/-- After the run: both scratch buffers, and every counter of the device at zero. -/
def Φ₁ (c : Dev nD) : sProp 𝕄 :=
  iprop((bigSep Finset.univ fun j : Sm => semVal (cellAt (c, j)) 0) ∗ scrap c cc0_scratch0 ∗ scrap c cc0_scratch1)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m ρ c
    | ⟨1, _⟩ => rOf m ρ c
    | ⟨2, _⟩ => wOf m ρ c
    | ⟨3, _⟩ => outOf m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Whole-buffer accesses -/

omit [FloatOps F] in
theorem zero2 : (![0, 0] : Fin 2 → Nat) = fun _ => 0 := funext fun a => by fin_cases a <;> rfl
omit [FloatOps F] in
theorem zero3 : (![0, 0, 0] : Fin 3 → Nat) = fun _ => 0 := funext fun a => by fin_cases a <;> rfl

abbrev rectX : Rect S1024x256 := Rect.unit (s := S1024x256) ![0, 0] S1024x256.size inb_S1024x256_S1024x256_0_0
abbrev rectR : Rect S1024x1 := Rect.unit (s := S1024x1) ![0, 0] S1024x1.size inb_S1024x1_S1024x1_0_0
abbrev rectW : Rect S4x256x512 := Rect.unit (s := S4x256x512) ![0, 0, 0] S4x256x512.size inb_S4x256x512_S4x256x512_0_0_0
abbrev rectB : Rect S104x512 := Rect.unit (s := S104x512) ![0, 0] S104x512.size inb_S104x512_S104x512_0_0
abbrev rectG : Rect S8x104x512 := Rect.unit (s := S8x104x512) ![0, 0, 0] S8x104x512.size inb_S8x104x512_S8x104x512_0_0_0
abbrev rectO : Rect S1024x512 := Rect.unit (s := S1024x512) ![0, 0] S1024x512.size inb_S1024x512_S1024x512_0_0

omit [FloatOps F] in
theorem read_x (f : (cc0_stg0_0 : Ref sig .tc).ty.Contents (Elt F)) : (xM).view.readAt (Elt F) rectX.toLoadRect f = f :=
  Memref.readAt_unit_zero (Elt F) cc0_stg0_0 zero2 _ f
omit [FloatOps F] in
theorem read_r (f : (cc0_stg1_0 : Ref sig .tc).ty.Contents (Elt F)) : (rM).view.readAt (Elt F) rectR.toLoadRect f = f :=
  Memref.readAt_unit_zero (Elt F) cc0_stg1_0 zero2 _ f
omit [FloatOps F] in
theorem read_w (f : (cc0_stg2_0 : Ref sig .tc).ty.Contents (Elt F)) : (wM).view.readAt (Elt F) rectW.toLoadRect f = f :=
  Memref.readAt_unit_zero (Elt F) cc0_stg2_0 zero3 _ f
omit [FloatOps F] in
theorem read_g (f : (cc0_scratch1 : Ref sig .tc).ty.Contents (Elt F)) : (gM).view.readAt (Elt F) rectG.toLoadRect f = f :=
  Memref.readAt_unit_zero (Elt F) cc0_scratch1 zero3 _ f
omit [FloatOps F] in
theorem write_b (f w : (cc0_scratch0 : Ref sig .tc).ty.Contents (Elt F)) :
    ((bM).access rectB : View sig .tc _ _ _).write (Elt F) f w Finset.univ = w :=
  Memref.write_access_unit_zero_univ (Elt F) cc0_scratch0 zero2 _ f w
omit [FloatOps F] in
theorem write_o (f w : (cc0_stg3_0 : Ref sig .tc).ty.Contents (Elt F)) :
    ((oM).access rectO : View sig .tc _ _ _).write (Elt F) f w Finset.univ = w :=
  Memref.write_access_unit_zero_univ (Elt F) cc0_stg3_0 zero2 _ f w

/-! ## The two operations that come once -/

/-- The copy of the block into the device's own row. -/
theorem copy_step (c : Dev nD) (q : DmaSem sig) (hq : q = copyQ) {hsrc : (bM).view.WordExact} {hdst : (rowM c).view.WordExact}
    {hsem : DmaTarget.Typed (nD := nD) (τ := τ) (p := .tc) .vmem (.dma q) (.here (rowM c : Memref sig (Proc.tc : Proc τ).kind .vmem S104x512 .bf16))}
    {α : Type} {Q : α → sProp 𝕄} {p : PUnit → Prog (TpuEff nD τ sig (Elt F) Λ₀ .tc) α} :
    iprop(records m ρ K ∗ blkPts m ρ c (lent 7) ∗ (∃ f, rowPts (F := F) c c f) ∗ dutyTok EX (copyCell c) 0 0)
      ⊢ iprop((cred (tallyAt (copyCell c) () N) -∗ run c (p ⟨⟩) Q) -∗ run c (.op (.enqueueDma bM (.here (rowM c)) (.dma q) hsrc hdst hsem) p) Q) := by
  subst hq
  iintro ⟨#Hrec, Hb, ⟨%f, Hrow⟩, Htok⟩
  ihave Hr := (record_at m ρ K (c, .inr (.inr (.inr ())))) $$ Hrec
  icases Hr with ⟨HI, Hre⟩
  iapply (Rounds.wp_copy_pointsTo 𝒱₀ EX (exRd m ρ) (c : Thread nD τ) none (κ := K (c, .inr (.inr (.inr ())))) (r := 0) (d := 0)
      (q := lent 7) (fs := blk m ρ c) (fd := f)
      (by rw [duties_dma _ _ _ _ (copyQ_ne c)]; exact Finset.mem_singleton_self _) () N rfl rfl
      (by rw [payload_copy]; unfold copyPay; exact sep_mono_left (Entails.of_eq (row_filled m ρ c c f))))
  isplitl [HI]; · iexact HI
  isplitl [Hb]; · unfold blkPts; iexact Hb
  isplitl [Hrow]; · unfold rowPts; iexact Hrow
  isplitl [Htok]; · iexact Htok
  iexact Hre

/-- The seven units of the barrier: each of the others has handed over its row. -/
theorem bar_step (c : Dev nD) (w : ℕ) (hw : w = 7) {α : Type} {Q : α → sProp 𝕄} {p : PUnit → Prog (TpuEff nD τ sig (Elt F) Λ₀ .tc) α} :
    iprop(records m ρ K ∗ levAts L lv ∗ ow c (owedSends c 0) ∗ cred (tallyAt (barCell c) () 7) ∗ atPos EX (barCell c) 0 ∅ 0)
      ⊢ iprop(((ow c (owedSends c 0) ∗ semVal (barCell c) 0 ∗ bigSep Finset.univ fun k : Fin 7 => iprop(∃ f, rowPts (F := F) (nb c k) c f)) -∗ run c (p ⟨⟩) Q)
          -∗ run c (.op (.semWait barS w) p) Q) := by
  subst hw
  unfold ow
  iintro ⟨#Hrec, #Hlev, ⟨%W, HO⟩, Hc, Hat⟩ Hk
  ihave Hr := (record_at m ρ K (c, .inl ())) $$ Hrec
  icases Hr with ⟨#HI, -⟩
  iapply (Rounds.wp_wait_rest_token 𝒱₀ EX (exRd m ρ) (c : Thread nD τ) none (κ := K (c, .inl ()))
      (wpE_semWait_eq 𝒱₀ (c : Thread nD τ) none Set.univ) (Set.mem_univ _) () (O := owedSends c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close EX (exRd m ρ) (Set.mem_univ (K (c, .inl ()))) (fun h => h) (R := 0 + 1) (duties_later m ρ (barCell c))) $$ [Hat] with Hz
  · isplitr; · iexact HI
    iexact Hat
  iapply Hk
  isplitl [HO]; · iexists _; iexact HO
  isplitl [Hz]; · iexact Hz
  ihave Hp := (Entails.of_eq (show bigSep ((exRd m ρ).duties (barCell c) 0 \ ∅) (fun d => (exRd m ρ).payload (barCell c) 0 d)
      = bigSep Finset.univ fun k : Fin 7 => iprop(∃ f, rowPts (F := F) (nb c k) c f) by
    rw [Finset.sdiff_empty, duties_bar]
    exact (bigSep_map (Φ := fun d : Dev nD => iprop(∃ f, rowPts (F := F) d c f)) ⟨pv c, pv_inj c⟩).symm.trans
      (((congrArg (fun S => bigSep S fun d : Dev nD => iprop(∃ f, rowPts (F := F) d c f)) ((pv_cover c).symm.trans (nb_cover c)))).trans
        (bigSep_map (Φ := fun d : Dev nD => iprop(∃ f, rowPts (F := F) d c f)) ⟨nb c, nb_inj c⟩)))) $$ Hpay
  iexact Hp

/-! ## Between the stages -/

omit [FloatOps F] in
theorem rows_some (c : Dev nD) (f : Buf (Elt F) ((c : Thread nD τ).loc cc0_scratch1)) :
    (bigSep Finset.univ fun k : Fin 7 => (rowPts c (nb c k) f : sProp 𝕄)) ⊢ bigSep Finset.univ fun k : Fin 7 => iprop(∃ f, rowPts (F := F) c (nb c k) f) :=
  bigSep_mono fun k _ => exists_intro (Φ := fun f => rowPts (F := F) c (nb c k) f) f

/-- The units stage opens with all seven to give, -/
theorem units_open (c : Dev nD) (f : Buf (Elt F) ((c : Thread nD τ).loc cc0_scratch1)) :
    iprop(ow c (owedSends c 0 + owedUnits c 0) ∗ (bigSep Finset.univ fun k : Fin 7 => dutyTok EX (barCell (nb c k)) 0 k)
      ∗ bigSep Finset.univ fun k : Fin 7 => (rowPts c (nb c k) f : sProp 𝕄)) ⊢ unitsAt c 0 := by
  unfold unitsAt
  rw [todo_zero, bigSep_sep']
  iintro ⟨HO, HB, HR⟩
  isplitl [HO]; · iexact HO
  isplitl [HB]; · iexact HB
  iapply (rows_some c f); iexact HR
/-- and closes owing the copies alone. -/
theorem units_close (c : Dev nD) : (unitsAt c ((6 : Fin 7).val + 1) : sProp 𝕄) ⊢ ow c (owedSends c 0) := by
  show unitsAt c 7 ⊢ _
  unfold unitsAt
  rw [owedUnits_end, add_zero]
  iintro ⟨HO, -⟩; iexact HO

/-- The sends stage opens with the seven targets' rows in hand, -/
theorem sends_open (c : Dev nD) :
    iprop(ow c (owedSends c 0) ∗ (bigSep Finset.univ fun k : Fin 7 => dutyTok EX (recvCell (nb c k) c) 0 0)
      ∗ (bigSep Finset.univ fun k : Fin 7 => dutyTok EX (sendCell c k) 0 0)
      ∗ (bigSep Finset.univ fun k : Fin 7 => blkPts m ρ c (lent k.castSucc))
      ∗ bigSep Finset.univ fun k : Fin 7 => iprop(∃ f, rowPts (F := F) (nb c k) c f)) ⊢ sendsAt m ρ c 0 := by
  unfold sendsAt
  rw [todo_zero, done_zero, bigSep_sep', bigSep_sep', bigSep_sep', bigSep_empty]
  iintro ⟨HO, HR, HS, HB, HP⟩
  isplitl [HO]; · iexact HO
  isplitl; swap; · iempintro
  isplitl [HR]; · iexact HR
  isplitl [HS]; · iexact HS
  isplitl [HB]; · iexact HB
  iexact HP
/-- and closes owing nothing, with a right to wait at every send cell. -/
theorem sends_close (c : Dev nD) :
    (sendsAt m ρ c ((6 : Fin 7).val + 1) : sProp 𝕄) ⊢ iprop(ow c 0 ∗ bigSep Finset.univ fun k : Fin 7 => cred (tallyAt (sendCell c k) () N)) := by
  show sendsAt m ρ c 7 ⊢ _
  unfold sendsAt
  rw [owedSends_end, done_seven]
  iintro ⟨HO, -, HC⟩
  isplitl [HO]; · iexact HO
  iexact HC

theorem recvs_open (c : Dev nD) :
    iprop(ow c 0 ∗ (bigSep Finset.univ fun k : Fin 7 => cred (tallyAt (recvCell c (pv c k)) () N))
      ∗ bigSep Finset.univ fun k : Fin 7 => atPos EX (recvCell c (pv c k)) 0 ∅ 0) ⊢ recvsAt m ρ c 0 := by
  unfold recvsAt
  rw [todo_zero, done_zero, bigSep_sep', bigSep_empty]
  iintro ⟨HO, HC, HA⟩
  isplitl [HO]; · iexact HO
  isplitl; swap; · iempintro
  isplitl [HC]; · iexact HC
  iexact HA
theorem recvs_close (c : Dev nD) :
    (recvsAt m ρ c ((6 : Fin 7).val + 1) : sProp 𝕄) ⊢ iprop(ow c 0 ∗ (bigSep Finset.univ fun k : Fin 7 => semVal (recvCell c (pv c k)) 0)
      ∗ bigSep Finset.univ fun k : Fin 7 => rowPts c (pv c k) (gathered m ρ)) := by
  show recvsAt m ρ c 7 ⊢ _
  unfold recvsAt
  rw [todo_seven, bigSep_empty, done_seven, bigSep_sep']
  iintro ⟨HO, -, HZ, HP⟩
  isplitl [HO]; · iexact HO
  isplitl [HZ]; · iexact HZ
  iexact HP

theorem back_open (c : Dev nD) :
    iprop(ow c 0 ∗ (bigSep Finset.univ fun k : Fin 7 => cred (tallyAt (sendCell c k) () N))
      ∗ bigSep Finset.univ fun k : Fin 7 => atPos EX (sendCell c k) 0 ∅ 0) ⊢ backAt m ρ c 0 := by
  unfold backAt
  rw [todo_zero, done_zero, bigSep_sep', bigSep_empty]
  iintro ⟨HO, HC, HA⟩
  isplitl [HO]; · iexact HO
  isplitl; swap; · iempintro
  isplitl [HC]; · iexact HC
  iexact HA
theorem back_close (c : Dev nD) :
    (backAt m ρ c ((6 : Fin 7).val + 1) : sProp 𝕄) ⊢ iprop(ow c 0 ∗ (bigSep Finset.univ fun k : Fin 7 => semVal (sendCell c k) 0)
      ∗ bigSep Finset.univ fun k : Fin 7 => blkPts m ρ c (lent k.castSucc)) := by
  show backAt m ρ c 7 ⊢ _
  unfold backAt
  rw [todo_seven, bigSep_empty, done_seven, bigSep_sep']
  iintro ⟨HO, -, HZ, HP⟩
  isplitl [HO]; · iexact HO
  isplitl [HZ]; · iexact HZ
  iexact HP

/-- Something at every semaphore of a device: at the barrier's, at the seven sends', at its own receive cell, at the
    seven others', and at the copy's. -/
theorem sems_split {M : Type} [URA M] (c : Dev nD) (Φ : GSem nD τ sig → sProp M) :
    (bigSep Finset.univ fun j : Sm => Φ (cellAt (c, j)))
      = iprop(Φ (barCell c) ∗ (bigSep Finset.univ fun k : Fin 7 => Φ (sendCell c k))
        ∗ (Φ (recvCell c c) ∗ bigSep Finset.univ fun k : Fin 7 => Φ (recvCell c (pv c k))) ∗ Φ (copyCell c)) := by
  rw [bigSep_univ_sum, bigSep_univ_sum, bigSep_univ_sum, bigSep_univ_of_subsingleton (), bigSep_univ_of_subsingleton (),
    around_pv c fun o => Φ (cellAt (c, .inr (.inr (.inl o))))]
  rfl

/-! ## The run -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ ∗ stg c cc0_stg0_0 (xOf m ρ c) ∗ stg c cc0_stg1_0 (rOf m ρ c)
    ∗ stg c cc0_stg2_0 (wOf m ρ c) ∗ stg c cc0_stg3_0 (outOf m ρ c))

set_option maxHeartbeats 4000000 in
theorem sound_body (c : Dev nD) (Kt : PUnit → sProp 𝕄) :
    iprop(bodyPre m ρ c ∗ (bodyPost m ρ c -∗ Kt ⟨⟩))
      ⊢ run c (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4) Kt := by
  simp only [run]
  simp only [cc0_body_eq_skeleton]; unfold cc0_body_skel
  simp only [k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel,
    semSignalWord, semWaitWord, Prog.lift, Prog.bind_op, Prog.bind_ret, Prog.pure_eq_ret, wp_deviceId]
  unfold bodyPre Φ₀ holds rights scrap
  iintro ⟨⟨⟨⟨%K, #Hrec, Hat, HtB, HtR, HtS, HtC⟩, ⟨HcB, HcR⟩, #Hlev, ⟨%fb, Hb⟩, ⟨%fg, Hg⟩⟩, Ho,
    ⟨%d0, %g0, %hg0, Hx⟩, ⟨%d1, %g1, %hg1, Hr⟩, ⟨%d2, %g2, %hg2, Hw⟩, ⟨%d3, %g3, %hg3, Hout⟩⟩, Hk⟩
  have hx : g0 = xOf m ρ c := by rw [hg0]; unfold Dat.before; rw [if_pos (fetch_0 t0_0)]; rfl
  have hr : g1 = rOf m ρ c := by rw [hg1]; unfold Dat.before; rw [if_pos (fetch_1 t0_0)]; rfl
  have hw : g2 = wOf m ρ c := by rw [hg2]; unfold Dat.before; rw [if_pos (fetch_2 t0_0)]; rfl
  subst hx hr hw
  unfold Dat.owesAt Pipeline.owesWithin
  icases Ho with ⟨%W, %hW, HO⟩
  rw [show (dats m ρ 0 c).owed t0_0.castSucc = owedSends c 0 + owedUnits c 0 from rfl]
  -- the gathering buffer by rows: its own, and the seven the others fill
  ihave Hrows := (Entails.of_eq ((buffer_rows c fg).trans (around_nb c fun o => rowPts c o fg))) $$ Hg
  icases Hrows with ⟨Hown, Hrows⟩
  -- the positions, cell by cell
  ihave Hat := (Entails.of_eq (sems_split c fun g => atPos EX g 0 ∅ 0)) $$ Hat
  icases Hat with ⟨HaB, HaS, ⟨HaO, HaR⟩, HaC⟩
  -- the seven units
  ihave HU := (units_open c fg) $$ [HO HtB Hrows]
  · isplitl [HO]; · unfold ow; iexists W; iexact HO
    isplitl [HtB]; · iexact HtB
    iexact Hrows
  iapply (unit_step m ρ K c _ 0 (dev1 c) _ (by decide)) $$ [HU]; (isplitr; iexact Hrec; iexact HU); iintro HU
  iapply (unit_step m ρ K c _ 1 (dev2 c) _ (by decide)) $$ [HU]; (isplitr; iexact Hrec; iexact HU); iintro HU
  iapply (unit_step m ρ K c _ 2 (dev3 c) _ (by decide)) $$ [HU]; (isplitr; iexact Hrec; iexact HU); iintro HU
  iapply (unit_step m ρ K c _ 3 (dev4 c) _ (by decide)) $$ [HU]; (isplitr; iexact Hrec; iexact HU); iintro HU
  iapply (unit_step m ρ K c _ 4 (dev5 c) _ (by decide)) $$ [HU]; (isplitr; iexact Hrec; iexact HU); iintro HU
  iapply (unit_step m ρ K c _ 5 (dev6 c) _ (by decide)) $$ [HU]; (isplitr; iexact Hrec; iexact HU); iintro HU
  iapply (unit_step m ρ K c _ 6 (dev7 c) _ (by decide)) $$ [HU]; (isplitr; iexact Hrec; iexact HU); iintro HU
  ihave HO := (units_close c) $$ HU
  -- the block is computed and stored
  iapply (wp_load 𝒱₀ (c : Thread nD τ) none Set.univ (m := rM) (Finset.subset_univ _)) $$ Hr; iintro Hr
  rw [read_r]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := bM) (Finset.subset_univ _)) $$ Hb; iintro Hb
  iapply (wp_store 𝒱₀ (c : Thread nD τ) none Set.univ (m := bM) (r := rectB) (w := blk m ρ c) (Mk := Finset.univ) (Finset.subset_univ _)) $$ Hb; iintro Hb
  rw [write_b]
  ihave Hb := (Entails.of_eq (block_shares m ρ c)) $$ Hb
  icases Hb with ⟨Hb7, Hbs⟩
  -- the copy into the own row
  iapply (copy_step m ρ K c _ rfl) $$ [Hb7 Hown HtC]
  · isplitr; · iexact Hrec
    isplitl [Hb7]; · iexact Hb7
    isplitl [Hown]; · iexists fg; iexact Hown
    iexact HtC
  iintro HcC
  -- the barrier's seven units: the others' rows
  iapply (bar_step m ρ K c _ (by decide)) $$ [HO HcB HaB]
  · isplitr; · iexact Hrec
    isplitr; · iexact Hlev
    isplitl [HO]; · iexact HO
    isplitl [HcB]; · iexact HcB
    iexact HaB
  iintro ⟨HO, HzB, Hrows⟩
  -- the seven transfers
  ihave HU := (sends_open m ρ c) $$ [HO HtR HtS Hbs Hrows]
  · isplitl [HO]; · iexact HO
    isplitl [HtR]; · iexact HtR
    isplitl [HtS]; · iexact HtS
    isplitl [Hbs]; · iexact Hbs
    iexact Hrows
  iapply (send_step m ρ K c _ 0 (dev8 c) _ _ (sendQ_eq 0 _) (recvQ_eq c)) $$ [HU]; (isplitr; iexact Hrec; iexact HU); iintro HU
  iapply (send_step m ρ K c _ 1 (dev9 c) _ _ (sendQ_eq 1 _) (recvQ_eq c)) $$ [HU]; (isplitr; iexact Hrec; iexact HU); iintro HU
  iapply (send_step m ρ K c _ 2 (dev10 c) _ _ (sendQ_eq 2 _) (recvQ_eq c)) $$ [HU]; (isplitr; iexact Hrec; iexact HU); iintro HU
  iapply (send_step m ρ K c _ 3 (dev11 c) _ _ (sendQ_eq 3 _) (recvQ_eq c)) $$ [HU]; (isplitr; iexact Hrec; iexact HU); iintro HU
  iapply (send_step m ρ K c _ 4 (dev12 c) _ _ (sendQ_eq 4 _) (recvQ_eq c)) $$ [HU]; (isplitr; iexact Hrec; iexact HU); iintro HU
  iapply (send_step m ρ K c _ 5 (dev13 c) _ _ (sendQ_eq 5 _) (recvQ_eq c)) $$ [HU]; (isplitr; iexact Hrec; iexact HU); iintro HU
  iapply (send_step m ρ K c _ 6 (dev14 c) _ _ (sendQ_eq 6 _) (recvQ_eq c)) $$ [HU]; (isplitr; iexact Hrec; iexact HU); iintro HU
  ihave HU := (sends_close m ρ c) $$ HU
  icases HU with ⟨HO, HcS⟩
  -- the seven blocks of the others
  ihave HU := (recvs_open m ρ c) $$ [HO HcR HaR]
  · isplitl [HO]; · iexact HO
    isplitl [HcR]; · iexact HcR
    iexact HaR
  iapply (recv_step m ρ K c 0 _ (waitQ_eq c 0 _ _ (by decide)) (row_credit _ _)) $$ [HU]; (isplitr; iexact Hrec; iexact HU); iintro HU
  iapply (recv_step m ρ K c 1 _ (waitQ_eq c 1 _ _ (by decide)) (row_credit _ _)) $$ [HU]; (isplitr; iexact Hrec; iexact HU); iintro HU
  iapply (recv_step m ρ K c 2 _ (waitQ_eq c 2 _ _ (by decide)) (row_credit _ _)) $$ [HU]; (isplitr; iexact Hrec; iexact HU); iintro HU
  iapply (recv_step m ρ K c 3 _ (waitQ_eq c 3 _ _ (by decide)) (row_credit _ _)) $$ [HU]; (isplitr; iexact Hrec; iexact HU); iintro HU
  iapply (recv_step m ρ K c 4 _ (waitQ_eq c 4 _ _ (by decide)) (row_credit _ _)) $$ [HU]; (isplitr; iexact Hrec; iexact HU); iintro HU
  iapply (recv_step m ρ K c 5 _ (waitQ_eq c 5 _ _ (by decide)) (row_credit _ _)) $$ [HU]; (isplitr; iexact Hrec; iexact HU); iintro HU
  iapply (recv_step m ρ K c 6 _ (waitQ_eq c 6 _ _ (by decide)) (row_credit _ _)) $$ [HU]; (isplitr; iexact Hrec; iexact HU); iintro HU
  ihave HU := (recvs_close m ρ c) $$ HU
  icases HU with ⟨HO, HzR, Hrows⟩
  -- the own copy
  iapply (wait_close m ρ K c (.inr (.inr ())) (copyQ_ne c) _ rfl (row_credit _ _)) $$ [HO HcC HaC]
  · isplitr; · iexact Hrec
    isplitl [HO]; · iexact HO
    isplitl [HcC]; · iexact HcC
    iexact HaC
  iintro ⟨HO, HzC, Hpay⟩
  ihave Hp := (Entails.of_eq (show (exRd m ρ).payload ((c : Thread nD τ), .dma (ownQ (.inr (.inr ())))) 0 0 = _ from payload_copy m ρ c 0)) $$ Hpay
  unfold copyPay
  icases Hp with ⟨Hown, Hb7⟩
  -- the gathered buffer, whole, read; the result stored
  ihave Hg := (Entails.of_eq ((buffer_rows c (gathered m ρ)).trans (around_pv c fun o => rowPts c o (gathered m ρ))).symm) $$ [Hown Hrows]
  · isplitl [Hown] <;> iassumption
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := rectO) (w := outOf m ρ c) (Mk := Finset.univ) (Finset.subset_univ _)) $$ Hout; iintro Hout
  rw [write_o]
  -- the seven lent shares come back
  ihave HU := (back_open m ρ c) $$ [HO HcS HaS]
  · isplitl [HO]; · iexact HO
    isplitl [HcS]; · iexact HcS
    iexact HaS
  iapply (back_step m ρ K c 0 _ (sendQ_eq 0 _) rfl) $$ [HU]; (isplitr; iexact Hrec; iexact HU); iintro HU
  iapply (back_step m ρ K c 1 _ (sendQ_eq 1 _) rfl) $$ [HU]; (isplitr; iexact Hrec; iexact HU); iintro HU
  iapply (back_step m ρ K c 2 _ (sendQ_eq 2 _) rfl) $$ [HU]; (isplitr; iexact Hrec; iexact HU); iintro HU
  iapply (back_step m ρ K c 3 _ (sendQ_eq 3 _) rfl) $$ [HU]; (isplitr; iexact Hrec; iexact HU); iintro HU
  iapply (back_step m ρ K c 4 _ (sendQ_eq 4 _) rfl) $$ [HU]; (isplitr; iexact Hrec; iexact HU); iintro HU
  iapply (back_step m ρ K c 5 _ (sendQ_eq 5 _) rfl) $$ [HU]; (isplitr; iexact Hrec; iexact HU); iintro HU
  iapply (back_step m ρ K c 6 _ (sendQ_eq 6 _) rfl) $$ [HU]; (isplitr; iexact Hrec; iexact HU); iintro HU
  ihave HU := (back_close m ρ c) $$ HU
  icases HU with ⟨HO, HzS, Hbs⟩
  ihave Hb := (Entails.of_eq (block_shares m ρ c).symm) $$ [Hb7 Hbs]
  · isplitl [Hb7] <;> iassumption
  -- its own receive cell was never used: it closes as it was
  ihave Hr' := (record_at m ρ K (c, .inr (.inr (.inl c)))) $$ Hrec
  icases Hr' with ⟨HI, -⟩
  simp only [run]
  rw [wp_ret]
  imod (Rounds.cell_close EX (exRd m ρ) (Set.mem_univ (K (c, .inr (.inr (.inl c))))) (fun h => h) (R := 0) (duties_own_later m ρ c)) $$ [HaO] with HzO
  · isplitr; · iexact HI
    iexact HaO
  imodintro
  iapply Hk
  unfold bodyPost Φ₁ scrap Dat.owesAt Pipeline.owesWithin
  rw [show (dats m ρ 0 c).owed t0_0.succ = 0 from rfl]
  isplitl [HzB HzS HzO HzR HzC Hb Hg]
  · isplitl [HzB HzS HzO HzR HzC]
    · iapply (Entails.of_eq (sems_split c fun g => semVal g 0).symm)
      isplitl [HzB]; · iexact HzB
      isplitl [HzS]; · iexact HzS
      isplitl [HzO HzR]; · isplitl [HzO] <;> iassumption
      iexact HzC
    isplitl [Hb]; · iexists _; iexact Hb
    iexists _; iexact Hg
  isplitl [HO]
  · unfold ow
    icases HO with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Hout

/-- The launch's obligation for the kernel on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4) (fun _ => bodyPost m ρ c)
  iintro H
  iapply (sound_body m ρ c fun _ => bodyPost m ρ c)
  isplitl [H]; · iexact H
  iintro H; iexact H

end Cert.Exchange

end
-- ==== Proof.Run.lean ====
/-
The launch of the exchange: the semaphores of all devices put under their schedules at once, the rights to pay dealt around
the ring, the debts between the devices; and the run of the whole program.
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores, numbered. -/
def osem (i : Fin 16) : SemLoc sig := .dma ⟨4 + i.val, by have := i.isLt; change 4 + i.val < 20; omega⟩

theorem ownSemFacts : Pipeline.OwnSemFacts cfg0.spec osem := by decide

theorem share_eq (c : Dev nD) (w : Fin cfg0.W) : (dats m ρ 0 c).share w = fullShare := by unfold Dat.share; split <;> rfl

theorem semOf_inj : Function.Injective semOf := by decide

theorem cellAt_inj : Function.Injective (cellAt : Dev nD × Sm → GSem nD τ sig) := by
  rintro ⟨c, j⟩ ⟨c', j'⟩ h
  have h1 : c = c' := congrArg (fun g : GSem nD τ sig => g.1.1) h
  have h2 : j = j' := semOf_inj (congrArg Prod.snd h)
  rw [h1, h2]

def exCells : Finset (GSem nD τ sig) := Finset.univ.map ⟨cellAt, cellAt_inj⟩

/-- The duties minted for a device's cells: the seven of its barrier, the one of each transfer semaphore. -/
def tokOf (p : Dev nD × (Fin 7 ⊕ Own)) : GSem nD τ sig × ℕ × Fin 7 := match p.2 with
  | .inl k => (barCell p.1, 0, k)
  | .inr j => (cellAt (p.1, .inr j), 0, 0)

theorem tokOf_inj : Function.Injective tokOf := by
  rintro ⟨c, j⟩ ⟨c', j'⟩ h
  have hc : c = c' := by
    have := congrArg (fun x : GSem nD τ sig × ℕ × Fin 7 => x.1.1.1) h
    cases j <;> cases j' <;> exact this
  subst hc
  have hj : j = j' := by
    rcases j with k | j <;> rcases j' with k' | j'
    · exact congrArg Sum.inl (congrArg (fun x : GSem nD τ sig × ℕ × Fin 7 => x.2.2) h)
    · have h' := congrArg (fun x : GSem nD τ sig × ℕ × Fin 7 => x.1.2) h
      exact absurd h' (fun e => by cases e)
    · have h' := congrArg (fun x : GSem nD τ sig × ℕ × Fin 7 => x.1.2) h
      exact absurd h' (fun e => by cases e)
    · have h' : semOf (.inr j) = semOf (.inr j') := congrArg (fun x : GSem nD τ sig × ℕ × Fin 7 => x.1.2) h
      exact congrArg Sum.inr (Sum.inr.inj (semOf_inj h'))
  rw [hj]

def exToks : Finset (GSem nD τ sig × ℕ × Fin 7) := Finset.univ.map ⟨tokOf, tokOf_inj⟩

def u₀ : UU := (initOf (Pipeline.cells cfgs cellOf_inj) (Pipeline.launchToks cfgs cellOf_inj), initOf exCells exToks)

/-- The duties of device `c`'s own cells. -/
def toks (c : Dev nD) : sProp 𝕄 :=
  iprop((bigSep Finset.univ fun k : Fin 7 => dutyTok EX (barCell c) 0 k) ∗ bigSep Finset.univ fun j : Own => dutyTok EX (cellAt (c, .inr j)) 0 0)

/-- What each device gets from the launch's element. -/
def G (c : Dev nD) : sProp 𝕄 :=
  iprop((bigSep Finset.univ fun j : Sm => roundState EX (exRd m ρ) (cellAt (c, j)) 0)
    ∗ ((bigSep Finset.univ fun j : Sm => atPos EX (cellAt (c, j)) 0 ∅ 0) ∗ bigSep Finset.univ fun j : Sm => reached EX (cellAt (c, j)) 0) ∗ toks c)

/-- What it has once all the cells are under their schedules. -/
def G' (c : Dev nD) : sProp 𝕄 := iprop(∃ K, records m ρ K ∗ holds c)

theorem fund_exchange : BI.own (EX (initOf exCells exToks)) ⊢ (|==> bigSep Finset.univ (G m ρ) : sProp 𝕄) := by
  have hcell (Φ : GSem nD τ sig → sProp 𝕄) : bigSep exCells Φ = bigSep Finset.univ fun c : Dev nD => bigSep Finset.univ fun j : Sm => Φ (cellAt (c, j)) := by
    unfold exCells; rw [bigSep_map, bigSep_univ_prod]; rfl
  have htok : bigSep exToks (fun x => (dutyTok EX x.1 x.2.1 x.2.2 : sProp 𝕄)) = bigSep Finset.univ fun c : Dev nD => toks c := by
    unfold exToks; rw [bigSep_map, bigSep_univ_prod]
    exact bigSep_congr fun c _ => by unfold toks; rw [bigSep_univ_sum]; rfl
  iintro H
  imod (Rounds.fund EX (exRd m ρ) exCells exToks) $$ H with ⟨Hst, Hre, Hat, Htk⟩
  imodintro
  ihave Hst := (Entails.of_eq (hcell fun g => roundState EX (exRd m ρ) g 0)) $$ Hst
  ihave Hat := (Entails.of_eq (hcell fun g => atPos EX g 0 ∅ 0)) $$ Hat
  ihave Hre := (Entails.of_eq (hcell fun g => reached EX g 0)) $$ Hre
  ihave Htk := (Entails.of_eq htok) $$ Htk
  unfold G; simp only [bigSep_sep']
  isplitl [Hst]; · iexact Hst
  isplitl [Hat Hre]
  · isplitl [Hat] <;> iassumption
  iexact Htk

/-! ## A device's semaphores -/

/-- The number of a transfer semaphore among the kernel's own. -/
def ownNo (j : Own) : Fin 16 := ⟨(ownQ j).val - 4, by have := (ownQ j).isLt; change _ < 20 at this; omega⟩
theorem ownNo_bij : Function.Bijective ownNo := ⟨by decide, by decide⟩
theorem osem_ownNo : ∀ j : Own, osem (ownNo j) = semOf (.inr j) := by decide

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Own => semVal (cellAt (c, .inr j)) 0 := by
  unfold Pipeline.ownSems0
  rw [bigSep_univ_equiv (Equiv.ofBijective ownNo ownNo_bij)]
  exact bigSep_congr fun j _ => by rw [Equiv.ofBijective_apply, osem_ownNo]

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The barrier semaphore and the kernel's own are all of a device's semaphores. -/
theorem all_sems (c : Dev nD) : (bigSep Finset.univ fun j : Sm => semVal (cellAt (c, j)) 0 : sProp 𝕄)
    = iprop(unscopedSems0 c ∗ Pipeline.ownSems0 (Ix := Unit) (Name := ℕ) (U := UU) (Lvl := ℕ) (Val := Elt F) (τ := τ) osem c) := by
  rw [bigSep_univ_sum, bigSep_univ_of_subsingleton (), ownSems0_eq, unscopedSems0_eq]; rfl

/-- One device's cells put under their schedules. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv EX (exRd m ρ) κ (cellAt (c, j))))
          ∗ ((bigSep Finset.univ fun j : Sm => atPos EX (cellAt (c, j)) 0 ∅ 0) ∗ bigSep Finset.univ fun j : Sm => reached EX (cellAt (c, j)) 0) ∗ toks c) := by
  unfold G
  iintro ⟨Hown, Hun, Hst, Hat, Htok⟩
  ihave Hv := (Entails.of_eq (all_sems (F := F) c).symm) $$ [Hown Hun]
  · isplitl [Hun] <;> iassumption
  imod (show iprop((bigSep Finset.univ fun j : Sm => semVal (cellAt (c, j)) 0) ∗ bigSep Finset.univ fun j : Sm => roundState EX (exRd m ρ) (cellAt (c, j)) 0)
      ⊢ (|={Set.univ}=> bigSep Finset.univ fun j => iprop(∃ κ : ℕ, cellInv EX (exRd m ρ) κ (cellAt (c, j))) : sProp 𝕄) from by
        rw [← bigSep_sep']
        exact (bigSep_mono fun j _ => (Rounds.body_intro EX (exRd m ρ) (cellAt (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt around -/

omit [FloatOps F] in
/-- What every device has for each offset may as well be counted at the device that far along. -/
theorem turned (Φ : Dev nD → Fin 7 → sProp 𝕄) :
    (bigSep Finset.univ fun c => bigSep Finset.univ fun k => Φ c k) = bigSep Finset.univ fun c => bigSep Finset.univ fun k => Φ (nb c k) k := by
  rw [bigSep_univ_comm, bigSep_univ_comm (fun c k => Φ (nb c k) k)]
  exact bigSep_congr fun k _ => bigSep_univ_equiv (turn k) fun c => Φ c k

/-- The duties device `c` pays. -/
def paid (c : Dev nD) : sProp 𝕄 :=
  iprop((bigSep Finset.univ fun k : Fin 7 => dutyTok EX (barCell (nb c k)) 0 k)
    ∗ (bigSep Finset.univ fun k : Fin 7 => dutyTok EX (recvCell (nb c k) c) 0 0)
    ∗ (bigSep Finset.univ fun k : Fin 7 => dutyTok EX (sendCell c k) 0 0)
    ∗ dutyTok EX (copyCell c) 0 0)

omit [FloatOps F] in
/-- The receive duties of device `c`, but for that of a block from itself, which nobody pays. -/
theorem recv_toks (c : Dev nD) : (bigSep Finset.univ fun o : Dev nD => (dutyTok EX (recvCell c o) 0 0 : sProp 𝕄))
    ⊢ bigSep Finset.univ fun k : Fin 7 => dutyTok EX (recvCell c (pv c k)) 0 0 := by
  rw [around_pv c]
  iintro ⟨-, H⟩
  iexact H

omit [FloatOps F] in
theorem toks_around : (bigSep Finset.univ fun c : Dev nD => (toks c : sProp 𝕄)) ⊢ bigSep Finset.univ fun c : Dev nD => paid c := by
  have hown (c : Dev nD) : (toks c : sProp 𝕄) ⊢ iprop((bigSep Finset.univ fun k : Fin 7 => dutyTok EX (barCell c) 0 k)
      ∗ (bigSep Finset.univ fun k : Fin 7 => dutyTok EX (recvCell c (pv c k)) 0 0)
      ∗ (bigSep Finset.univ fun k : Fin 7 => dutyTok EX (sendCell c k) 0 0) ∗ dutyTok EX (copyCell c) 0 0) := by
    unfold toks
    rw [bigSep_univ_sum, bigSep_univ_sum, bigSep_univ_of_subsingleton ()]
    show iprop(_ ∗ (bigSep Finset.univ fun k : Fin 7 => dutyTok EX (sendCell c k) 0 0)
      ∗ (bigSep Finset.univ fun o : Dev nD => dutyTok EX (recvCell c o) 0 0) ∗ dutyTok EX (copyCell c) 0 0) ⊢ _
    iintro ⟨HB, HS, HR, HC⟩
    isplitl [HB]; · iexact HB
    isplitl [HR]; · iapply (recv_toks (F := F) c); iexact HR
    isplitl [HS]; · iexact HS
    iexact HC
  refine (bigSep_mono fun c _ => hown c).trans ?_
  unfold paid
  rw [bigSep_sep', bigSep_sep', bigSep_sep', bigSep_sep', bigSep_sep', bigSep_sep',
    turned (fun c k => (dutyTok EX (barCell c) 0 k : sProp 𝕄)), turned (fun c k => (dutyTok EX (recvCell c (pv c k)) 0 0 : sProp 𝕄))]
  simp only [pv_nb]
  exact BI.Entails.refl _

theorem holds_intro (K : Dev nD × Sm → ℕ) (c : Dev nD) :
    iprop(records m ρ K ∗ (bigSep Finset.univ fun j : Sm => atPos EX (cellAt (c, j)) 0 ∅ 0) ∗ paid c) ⊢ G' m ρ c := by
  unfold G' holds paid
  iintro ⟨HR, Hat, Hp⟩
  iexists K
  isplitl [HR]; · iexact HR
  isplitl [Hat]; · iexact Hat
  iexact Hp

theorem regroup :
    (bigSep Finset.univ fun c : Dev nD => iprop((bigSep Finset.univ fun j => iprop(∃ κ : ℕ, cellInv EX (exRd m ρ) κ (cellAt (c, j))))
          ∗ ((bigSep Finset.univ fun j : Sm => atPos EX (cellAt (c, j)) 0 ∅ 0) ∗ bigSep Finset.univ fun j : Sm => reached EX (cellAt (c, j)) 0) ∗ toks c) : sProp 𝕄)
      ⊢ bigSep Finset.univ (G' m ρ) := by
  rw [bigSep_sep', bigSep_sep', bigSep_sep', ← bigSep_univ_prod (fun p : Dev nD × Sm => iprop(∃ κ : ℕ, cellInv EX (exRd m ρ) κ (cellAt p))),
    ← bigSep_univ_prod (fun p : Dev nD × Sm => (reached EX (cellAt p) 0 : sProp 𝕄))]
  iintro ⟨HI, ⟨Hat, #HR⟩, Htok⟩
  ihave HK := (BI.bigSep_exists_pi Finset.univ (fun (p : Dev nD × Sm) (κ : ℕ) => (cellInv EX (exRd m ρ) κ (cellAt p) : sProp 𝕄))) $$ HI
  icases HK with ⟨%K, #HI⟩
  ihave Htk := (toks_around (F := F)) $$ Htok
  iapply (BI.bigSep_with_persistent (R := records m ρ K) fun c _ => holds_intro m ρ K c)
  isplitr
  · unfold records; isplitl; · iexact HI
    iexact HR
  · rw [bigSep_sep']
    isplitl [Hat]; · iexact Hat
    iexact Htk

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The debts between the devices -/

theorem bar_ne_recv (a b o : Dev nD) : barCell a ≠ recvCell b o := fun h => by cases congrArg Prod.snd h

theorem bar_eq_iff {a b : Dev nD} : Iff (barCell a = barCell b) (a = b) :=
  ⟨fun h => congrArg (fun g : GSem nD τ sig => g.1.1) h, fun h => h ▸ rfl⟩
theorem recvQ_inj : Function.Injective recvQ := by decide
theorem recv_eq_iff {a b o p : Dev nD} : Iff (recvCell a o = recvCell b p) (a = b ∧ o = p) :=
  ⟨fun h => ⟨congrArg (fun g : GSem nD τ sig => g.1.1) h, recvQ_inj (SemLoc.dma.inj (congrArg Prod.snd h))⟩, fun h => by rw [h.1, h.2]⟩

/-- Device `d` owes a barrier one unit for each offset at which it lies. -/
theorem owed_bar (d c : Dev nD) : O₀ d (barCell c) () = ∑ k : Fin 7, if nb d k = c then 1 else 0 := by
  unfold O₀ owedSends owedUnits
  rw [Pi.add_apply, Finsupp.add_apply, Finset.sum_apply, Finsupp.finset_sum_apply, Finset.sum_apply, Finsupp.finset_sum_apply, todo_zero,
    Finset.sum_eq_zero fun k _ => by rw [tallyAt_ne_cell (bar_ne_recv _ _ _), Finsupp.zero_apply], Nat.zero_add]
  refine Finset.sum_congr rfl fun k _ => ?_
  rw [tallyAt_apply]
  by_cases h : nb d k = c
  · rw [if_pos ⟨by rw [h], rfl⟩, if_pos h]
  · rw [if_neg (fun e => h (bar_eq_iff.mp e.1).symm), if_neg h]

/-- Device `d` owes a receive cell a block if it is the cell of its blocks on another device. -/
theorem owed_recv (d c o : Dev nD) : O₀ d (recvCell c o) () = ∑ k : Fin 7, (if nb d k = c ∧ d = o then 1 else 0) * N := by
  unfold O₀ owedSends owedUnits
  rw [Pi.add_apply, Finsupp.add_apply, Finset.sum_apply, Finsupp.finset_sum_apply, Finset.sum_apply, Finsupp.finset_sum_apply, todo_zero,
    Finset.sum_eq_zero (f := fun k => (tallyAt (barCell (nb d k)) () 1 : CellTallies nD τ sig Unit) (recvCell c o) ())
      fun k _ => by rw [tallyAt_ne_cell fun h => bar_ne_recv _ _ _ h.symm, Finsupp.zero_apply], Nat.add_zero]
  refine Finset.sum_congr rfl fun k _ => ?_
  rw [tallyAt_apply]
  by_cases h : nb d k = c ∧ d = o
  · rw [if_pos ⟨by rw [h.1, h.2], rfl⟩, if_pos h, Nat.one_mul]
  · rw [if_neg (fun e => h ⟨(recv_eq_iff.mp e.1).1.symm, (recv_eq_iff.mp e.1).2.symm⟩), if_neg h, Nat.zero_mul]

theorem seven_units : ∀ c : Dev nD, (∑ d : Dev nD, ∑ k : Fin 7, if nb d k = c then 1 else 0) = 7 := by decide
theorem one_block : ∀ (c : Dev nD) (k' : Fin 7), (∑ d : Dev nD, ∑ k : Fin 7, if nb d k = c ∧ d = pv c k' then 1 else 0) = 1 := by decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, seven_units]

theorem launch_recv (c : Dev nD) (k : Fin 7) :
    tallyOn (recvCell c (pv c k)) (launchCredit (Pipeline.owing O₀) 0 (recvCell c (pv c k))) = (tallyAt (recvCell c (pv c k)) () N : CellTallies nD τ sig Unit) := by
  unfold tallyAt; refine congrArg _ (Finsupp.ext fun u => ?_); cases u
  rw [Pipeline.launchCredit_owing, Finsupp.single_eq_same, Finset.sum_congr rfl fun d _ => owed_recv d c (pv c k)]
  simp only [← Finset.sum_mul]
  rw [one_block, Nat.one_mul]

/-- The cells the others owe. -/
def duesOf (c : Dev nD) : Unit ⊕ Fin 7 → SemLoc sig
  | .inl _ => .reg barS
  | .inr k => .dma (recvQ (pv c k))
theorem duesOf_inj (c : Dev nD) : Function.Injective (duesOf c) := by
  rintro (_ | k) (_ | k') h
  · rfl
  · cases h
  · cases h
  · exact congrArg Sum.inr (pv_inj c (recvQ_inj (SemLoc.dma.inj h)))

omit [FloatOps F] in
theorem creds (c : Dev nD) : (Pipeline.launchCred O₀ c : sProp 𝕄) ⊢ rights c := by
  unfold Pipeline.launchCred rights
  refine (bigSep_subset (Finset.subset_univ (Finset.univ.map ⟨duesOf c, duesOf_inj c⟩))).trans ?_
  rw [bigSep_map, bigSep_univ_sum, bigSep_univ_of_subsingleton ()]
  exact BI.sep_mono (Entails.of_eq (congrArg cred (launch_bar c))) (bigSep_mono fun k _ => Entails.of_eq (congrArg cred (launch_recv c k)))

/-! ## The run -/

/-- What a device starts with. -/
def start (c : Dev nD) : sProp 𝕄 := iprop(G' m ρ c ∗ rights c ∗ levAts L lv)
/-- The argument the kernel does not read. -/
def spare (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ spare m c) := by
  rw [Pipeline.unscopedRestP_none, unscopedRest0_eq]
  iintro ⟨Hs, Hlev, Hcr, -, HG⟩
  ihave Hc := (creds (F := F) c) $$ Hcr
  imodintro
  unfold start spare
  isplitl [HG Hc Hlev]
  · isplitl [HG]; · iexact HG
    isplitl [Hc] <;> iassumption
  · iexact Hs

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start G' scrap
  iintro ⟨⟨HG, Hr, Hl⟩, -, H0, H1⟩
  isplitl [HG]; · iexact HG
  isplitl [Hr]; · iexact Hr
  isplitl [Hl]; · iexact Hl
  isplitl [H0] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scrap
  rw [all_sems]
  iintro ⟨⟨Hu, Ho⟩, H0, H1⟩
  isplitl [Hu]; · iexact Hu
  isplitl [Ho]; · iexact Ho
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arrays of the kernel's windows at the end. -/
def finalA (c : Dev nD) (w : Fin cfg0.W) : Buf (Elt F) ((cfg0.win w).arr.view.loc (c : Thread nD τ)) := (dats m ρ 0 c).arrAt w cfg0.N

/-- Every window's array at its final contents, the unread argument as it was. -/
def ends (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

omit [FloatOps F] in
theorem spare_read (c : Dev nD) (s : Phys nD τ sig (Elt F)) :
    iprop(spare m c ∗ SI s) ⊢ (iprop(⌜s.mem.mem ((c : Thread nD τ).loc main_arg1) = m ((c : Thread nD τ).loc main_arg1)⌝ ∗ SI s) : sProp 𝕄) := by
  have h := pointsTo_read_all (Ix := Unit) (Name := ℕ) (U := UU) (Lvl := ℕ) {()} (fun _ : Unit => (c : Thread nD τ).loc main_arg1) (fun _ => m ((c : Thread nD τ).loc main_arg1)) s
  rw [bigSep_singleton] at h
  refine h.trans (BI.sep_mono (pure_mono fun h => h () (Finset.mem_singleton_self _)) (BI.Entails.refl _))

set_option maxRecDepth 8000 in
/-- On eight devices, from any memory with zero counters: every fair execution of the program ends, with every result array
    at the computed contents, the arguments unchanged and every counter at zero. -/
theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := spare m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hs, HSI⟩
      ihave H := (spare_read m c s') $$ [Hs HSI]
      · isplitl [Hs] <;> iassumption
      icases H with ⟨%h1, HSI⟩
      imod (Pipeline.unscopedSems0_read (X := unscopedSems0 c) (c := c) fupd_intro s') $$ [Hu HSI] with ⟨%h2, HSI⟩
      · isplitl [Hu] <;> iassumption
      imodintro
      isplitr; · ipureintro; exact ⟨h2, h1⟩
      iexact HSI)
    (hQ := fun _ h hs => ⟨fun c => ⟨(h c).1, (h c).2.2.2⟩, sem_eq_zero hs fun c => (h c).2.2.1⟩)

/-! ## The arrays at the end -/

/-- An argument's array is as it was. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.Exchange

end
-- ==== Proof.Ends.lean ====
/-
The whole run's ends as plain contents: what the staged operands are of the arguments, and what the result's array holds.
-/
module

public import proofs.«01_k».proof.Proof.Run
public import proofs.«01_k».proof.Proof.Gen.KernelIdeal.Points

@[expose] public section

set_option maxRecDepth 16384

noncomputable section

namespace Cert.Exchange

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The staged tokens are the first argument. -/
theorem xOf_eq (c : Dev nD) : xOf m ρ c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide) (fun a => by fin_cases a <;> decide) _

/-- The staged routes are the third argument. -/
theorem rOf_eq (c : Dev nD) : rOf m ρ c = m ((c : Thread nD τ).loc main_arg2) :=
  Memref.read_access_unit_zero (Elt F) main_arg2
    (show (fun a => (win0_1.index (0 : Fin 1)) a * main_arg2.ty.shape.size a) = fun _ => 0 from
      funext fun a => by fin_cases a <;> decide) (fun a => by fin_cases a <;> decide) _

/-- The staged weights are the fourth argument. -/
theorem wOf_eq (c : Dev nD) : wOf m ρ c = m ((c : Thread nD τ).loc main_arg3) :=
  Memref.read_access_unit_zero (Elt F) main_arg3
    (show (fun a => (win0_2.index (0 : Fin 1)) a * main_arg3.ty.shape.size a) = fun _ => 0 from
      funext fun a => by fin_cases a <;> decide) (fun a => by fin_cases a <;> decide) _

/-- Reading the result's array through its one block reads the array. -/
theorem read_out (c : Dev nD) (f : Buf (Elt F) ((c : Thread nD τ).loc main_v1)) : (win0_3.blk t0_0).view.read (Elt F) f = f :=
  Memref.read_access_unit_zero (Elt F) main_v1
    (show (fun a => (win0_3.index t0_0) a * main_v1.ty.shape.size a) = fun _ => 0 from
      funext fun a => by fin_cases a <;> decide) (fun a => by fin_cases a <;> decide) f

/-- The result's array ends at the kernel's result. -/
theorem finalA_out (c : Dev nD) : finalA m ρ c (3 : Fin 4) = outOf m ρ c := by
  have hw : ((cfg0.win 3).blk t0_0).view.read (Elt F) ((dats m ρ 0 c).arrAt 3 cfg0.N) = (dats m ρ 0 c).flushed 3 t0_0 := by
    rw [show cfg0.N = t0_0.val + 1 from rfl, (dats m ρ 0 c).arrAt_succ (3 : Fin 4) t0_0, flush0_3, if_pos rfl]
    exact View.read_write_univ _ _
  exact (read_out c _).symm.trans (hw.trans rfl)

/-- The run's ends by name: the result and the four arguments. -/
theorem ends_read (r : PUnit × MemSt nD τ sig (Elt F)) (h : ends m ρ r) (c : Dev nD) :
    r.2.mem ((c : Thread nD τ).loc main_v1) = outOf m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 (3 : Fin 4)).trans (finalA_out m ρ c), ((h c).1 (0 : Fin 4)).trans (finalA_in m ρ c (0 : Fin 4) rfl), (h c).2,
    ((h c).1 (1 : Fin 4)).trans (finalA_in m ρ c (1 : Fin 4) rfl), ((h c).1 (2 : Fin 4)).trans (finalA_in m ρ c (2 : Fin 4) rfl)⟩

end Cert.Exchange

end
-- ==== Proof.Rank.lean ====
/-
How many earlier tokens chose a token's expert: what the kernel's counting computes, at exact arithmetic.

The kernel counts with matrix products: 256 tokens at a time against a strictly lower triangular matrix of ones, plus the
column sums of the groups before. Its count is the number of earlier tokens with the same expert, for every token whose
expert is one of the 32.
-/
module

public import proofs.«01_k».proof.Proof.Cells
public import Idealize.ShloMosaic.Lib.Pointwise
public import Idealize.ShloMosaic.Lib.WordCmp

@[expose] public section

set_option maxRecDepth 16384

noncomputable section

namespace Cert.Moe

open Cert.KernelIdeal Cert.KernelIdeal.Gen Cert.Exchange
open Idealize.ShloMosaic

/-! ## Words, truth values and whole numbers -/

/-- A truth value widened to a word and converted: one where it holds, zero elsewhere. -/
theorem flag_eq (φ : FTy) (b : BitVec 1) :
    (FloatOps.sitofp (F := Ideal) φ (b.setWidth 32) : EReal) = if b = 1#1 then 1 else 0 := by
  show ((((b.setWidth 32).toInt : ℤ) : ℝ) : EReal) = _
  rcases (by decide +revert : b = 0#1 ∨ b = 1#1) with rfl | rfl <;> simp

/-- A whole number below 2^31 converted to a word. -/
theorem back_eq (n : ℕ) (hn : n < 2147483648) : Ideal.fptosi 32 ((n : ℝ) : EReal) = BitVec.ofNat 32 n := by
  have h1 : (n : ℤ) ≤ ((2 ^ (32 - 1) : ℕ) : ℤ) - 1 := by norm_num; omega
  have h2 : -((2 ^ (32 - 1) : ℕ) : ℤ) ≤ n := by omega
  rw [Ideal.fptosi, Ideal.toIntClamped_coe, if_pos (Nat.cast_nonneg n), Int.floor_natCast,
    min_eq_right h1, max_eq_right h2, BitVec.ofInt_natCast]

/-- A word converted to a real and back. -/
theorem back_word (b : BitVec 32) : Ideal.fptosi 32 ((b.toInt : ℝ) : EReal) = b := by
  have h1 : b.toInt ≤ ((2 ^ (32 - 1) : ℕ) : ℤ) - 1 := by have := BitVec.toInt_lt (x := b); norm_num at this ⊢; omega
  have h2 : -((2 ^ (32 - 1) : ℕ) : ℤ) ≤ b.toInt := by have := BitVec.le_toInt b; norm_num at this ⊢; omega
  rw [Ideal.fptosi, Ideal.toIntClamped_coe, Int.floor_intCast, Int.ceil_intCast, ite_self,
    min_eq_right h1, max_eq_right h2, BitVec.ofInt_toInt]

/-- The comparison for equality holds where the words are equal. -/
theorem eq_holds {w : ℕ} (a b : BitVec w) : IntOp.cmpi .eq a b = 1#1 ↔ a = b := by
  rw [WordCmp.cmpi_eq_eq, WordCmp.ofBool_decide_eq_one_iff]

/-- The signed comparison of two small numbers' words holds where the numbers compare. -/
theorem lt_holds {a b : ℕ} (ha : a < 2147483648) (hb : b < 2147483648) :
    IntOp.cmpi .slt (BitVec.ofNat 32 a) (BitVec.ofNat 32 b) = 1#1 ↔ a < b := by
  rw [WordCmp.cmpi_slt_ofNat (by norm_num; omega) (by norm_num; omega), WordCmp.ofBool_decide_eq_one_iff]

/-- A conjunction of truth values holds where both do. -/
theorem and_holds (a b : BitVec 1) : IntOp.andi a b = 1#1 ↔ a = 1#1 ∧ b = 1#1 := by decide +revert

/-- The product of two truth values as numbers is that of their conjunction. -/
theorem ite_mul_ite (p q : Prop) [Decidable p] [Decidable q] :
    (if p then (1 : EReal) else 0) * (if q then 1 else 0) = if p ∧ q then 1 else 0 := by
  by_cases p <;> by_cases q <;> simp [*]

/-- The sum of truth values is how many hold. -/
theorem sum_flags {ι : Type} [Fintype ι] (p : ι → Prop) [DecidablePred p] :
    (∑ i, if p i then (1 : EReal) else 0) = (((Finset.univ.filter p).card : ℝ) : EReal) := by
  rw [Finset.sum_boole]; rfl

/-- A number's word is the word `e` exactly where the number is what `e` holds. -/
theorem word_eq_iff {e : BitVec 32} {n : ℕ} (hn : n < 4294967296) : e = BitVec.ofNat 32 n ↔ e.toNat = n := by
  rw [← BitVec.toNat_inj, BitVec.toNat_ofNat, Nat.mod_eq_of_lt (by norm_num; omega)]

/-- A sum over 32 with one candidate. -/
theorem sum_pick (e : BitVec 32) (f : Fin 32 → EReal) :
    (∑ x : Fin 32, if e = BitVec.ofNat 32 x.val then f x else 0) = if h : e.toNat < 32 then f ⟨e.toNat, h⟩ else 0 := by
  by_cases h : e.toNat < 32
  · rw [dif_pos h, Finset.sum_eq_single ⟨e.toNat, h⟩, if_pos ((word_eq_iff (by omega)).2 rfl)]
    · intro x _ hx
      rw [if_neg]
      intro h'
      exact hx (Fin.ext ((word_eq_iff (by omega)).1 h').symm)
    · intro h'; exact absurd (Finset.mem_univ _) h'
  · rw [dif_neg h]
    refine Finset.sum_eq_zero fun x _ => if_neg fun h' => h ?_
    rw [(word_eq_iff (by omega)).1 h']; exact x.isLt

/-! ## The count -/

/-- How many tokens before `t` chose expert `e`. -/
def ahead (R : Fin 1024 → BitVec 32) (t : Fin 1024) (e : BitVec 32) : ℕ :=
  (Finset.univ.filter fun s => s < t ∧ R s = e).card

theorem ahead_lt (R : Fin 1024 → BitVec 32) (t : Fin 1024) (e : BitVec 32) : ahead R t e < 1024 := by
  refine (Finset.card_lt_card (t := Finset.univ) ?_).trans_eq (by simp)
  refine Finset.ssubset_univ_iff.2 fun h => ?_
  have ht : t ∈ Finset.univ.filter fun s => s < t ∧ R s = e := by rw [h]; exact Finset.mem_univ t
  simp at ht

/-- Earlier takers of one expert number fewer. -/
theorem ahead_lt_of_lt {R : Fin 1024 → BitVec 32} {s t : Fin 1024} (h : s < t) (e : R s = R t) :
    ahead R s (R s) < ahead R t (R t) := by
  refine Finset.card_lt_card (Finset.ssubset_iff_of_subset ?_ |>.2 ⟨s, ?_, ?_⟩)
  · intro u hu
    simp only [Finset.mem_filter, Finset.mem_univ, true_and] at hu ⊢
    exact ⟨hu.1.trans h, hu.2.trans e⟩
  · simpa using ⟨h, e⟩
  · simp

/-- No two tokens of one expert have the same count. -/
theorem ahead_inj {R : Fin 1024 → BitVec 32} {s t : Fin 1024} (e : R s = R t) (h : ahead R s (R s) = ahead R t (R t)) : s = t := by
  rcases lt_trichotomy s t with hlt | heq | hgt
  · exact absurd h (ahead_lt_of_lt hlt e).ne
  · exact heq
  · exact absurd h (ahead_lt_of_lt hgt e.symm).ne'

/-- A sum over the tokens, in four groups of 256. -/
theorem sum_groups (f : Fin 1024 → EReal) :
    ∑ s, f s = ((∑ k : Fin 256, f ⟨k.val, by omega⟩) + ∑ k : Fin 256, f ⟨256 + k.val, by omega⟩)
      + ((∑ k : Fin 256, f ⟨512 + k.val, by omega⟩) + ∑ k : Fin 256, f ⟨768 + k.val, by omega⟩) := by
  rw [Fin.sum_univ_two_halves 512 512 rfl f, Fin.sum_univ_two_halves 256 256 rfl, Fin.sum_univ_two_halves 256 256 rfl]
  rfl

section Groups
variable (R : Fin 1024 → BitVec 32) (t : Fin 1024) (e : BitVec 32)

/-- A group that lies before the token: all its takers count. -/
theorem group_before (o : ℕ) (ho : o + 256 ≤ 1024) (h : o + 256 ≤ t.val) :
    (∑ k : Fin 256, if (⟨o + k.val, by omega⟩ : Fin 1024) < t ∧ R ⟨o + k.val, by omega⟩ = e then (1 : EReal) else 0)
      = ∑ k : Fin 256, if R ⟨o + k.val, by omega⟩ = e then (1 : EReal) else 0 := by
  refine Finset.sum_congr rfl fun k _ => ?_
  have : (⟨o + k.val, by omega⟩ : Fin 1024) < t := Fin.lt_def.2 (by show o + k.val < t.val; omega)
  simp only [this, true_and]

/-- A group after the token: none counts. -/
theorem group_after (o : ℕ) (ho : o + 256 ≤ 1024) (h : t.val ≤ o) :
    (∑ k : Fin 256, if (⟨o + k.val, by omega⟩ : Fin 1024) < t ∧ R ⟨o + k.val, by omega⟩ = e then (1 : EReal) else 0) = 0 := by
  refine Finset.sum_eq_zero fun k _ => if_neg fun h' => ?_
  have := Fin.lt_def.1 h'.1
  change o + k.val < t.val at this
  omega

/-- The token's own group: those before it, by the comparison of the positions in the group. -/
theorem group_own (o n : ℕ) (ho : o + 256 ≤ 1024) (hn : n + o = t.val) :
    (∑ k : Fin 256, if (⟨o + k.val, by omega⟩ : Fin 1024) < t ∧ R ⟨o + k.val, by omega⟩ = e then (1 : EReal) else 0)
      = ∑ k : Fin 256, (if IntOp.cmpi .slt (BitVec.ofNat 32 k.val) (BitVec.ofNat 32 n) = 1#1 then (1 : EReal) else 0)
          * (if R ⟨o + k.val, by omega⟩ = e then 1 else 0) := by
  refine Finset.sum_congr rfl fun k _ => ?_
  rw [ite_mul_ite]
  have : (⟨o + k.val, by omega⟩ : Fin 1024) < t ↔ k.val < n := by
    rw [Fin.lt_def]; show o + k.val < t.val ↔ _; omega
  simp only [this, lt_holds (show k.val < 2147483648 by omega) (show n < 2147483648 by omega)]

end Groups

/-- The kernel's count is `ahead`, for every token whose expert exists; the others' is zero. -/
theorem rankOf_eq (r : IVec S1024x1 32) (t : Fin 1024) :
    rankOf (F := Ideal) r (ix2 t 0)
      = if (r (ix2 t 0)).toNat < 32 then BitVec.ofNat 32 (ahead (fun s => r (ix2 s 0)) t (r (ix2 t 0))) else 0#32 := by
  have key : rankOf (F := Ideal) r (ix2 t 0) = Ideal.fptosi 32 (∑ x : Fin 32, if r (ix2 t 0) = BitVec.ofNat 32 x.val then
      (((ahead (fun s => r (ix2 s 0)) t (BitVec.ofNat 32 x.val) : ℕ) : ℝ) : EReal) else 0) := by
    pointwise [rankOf, k0_pay2]
    simp only [flag_eq, eq_holds]
    refine congrArg (Ideal.fptosi 32) (Finset.sum_congr rfl fun x _ => ?_)
    show (if IntOp.cmpi .eq _ _ = 1#1 then _ else _) = _
    simp only [eq_holds]
    refine if_congr Iff.rfl ?_ rfl
    rw [ahead, ← sum_flags, sum_groups]
    have g := fun o n ho hn => group_own (fun s => r (ix2 s 0)) t (BitVec.ofNat 32 x.val) o n ho hn
    have b := fun o ho hn => group_before (fun s => r (ix2 s 0)) t (BitVec.ofNat 32 x.val) o ho hn
    have a := fun o ho hn => group_after (fun s => r (ix2 s 0)) t (BitVec.ofNat 32 x.val) o ho hn
    have g0 := fun n hn => g 0 n (by omega) hn
    have b0 := fun hn => b 0 (by omega) hn
    simp only [Nat.zero_add, Nat.add_zero] at g0 b0
    split_ifs with h0 h1 h2
    · rw [g0 t.val rfl, a 256 (by omega) (by omega), a 512 (by omega) (by omega), a 768 (by omega) (by omega)]
      simp only [add_zero]
    · rw [b0 (by omega), g 256 (t.val - 256) (by omega) (by omega), a 512 (by omega) (by omega), a 768 (by omega) (by omega)]
      simp only [add_zero]
      rw [add_comm]
    · rw [b0 (by omega), b 256 (by omega) (by omega), g 512 (t.val - 256 - 256) (by omega) (by omega), a 768 (by omega) (by omega)]
      simp only [add_zero]
      rw [add_comm]
    · rw [b0 (by omega), b 256 (by omega) (by omega), b 512 (by omega) (by omega),
        g 768 (t.val - 256 - 256 - 256) (by omega) (by omega)]
      rw [add_comm, add_assoc]
  rw [key, sum_pick]
  by_cases h : (r (ix2 t 0)).toNat < 32
  · rw [dif_pos h, if_pos h, back_eq _ ((ahead_lt _ _ _).trans (by norm_num))]
    have : BitVec.ofNat 32 (r (ix2 t 0)).toNat = r (ix2 t 0) := ((word_eq_iff (by omega)).2 rfl).symm
    rw [show (⟨(r (ix2 t 0)).toNat, h⟩ : Fin 32).val = (r (ix2 t 0)).toNat from rfl, this]
  · rw [dif_neg h, if_neg h]
    have := back_eq 0 (by norm_num)
    simpa using this

end Cert.Moe

end
-- ==== Proof.Entries.lean ====
/-
The kernel's arithmetic entry by entry, at exact arithmetic: the select matrix that reads the gathered rows, the two
one-hot contractions that make a device's block, and the closed form of a block's row.
-/
module

public import proofs.«01_k».proof.Proof.Rank

@[expose] public section

set_option maxRecDepth 16384

noncomputable section

namespace Cert.Moe

open Cert.KernelIdeal Cert.KernelIdeal.Gen Cert.Exchange
open Idealize.ShloMosaic

/-! ## The entries -/

theorem pay1_eq (r : IVec S1024x1 32) : k0_pay1 (F := Ideal) r = r := by
  funext i
  idx_vars i
  pointwise [k0_pay1]

/-- The select matrix's entry: one where the row of the gathered blocks is the token's place, zero elsewhere. -/
theorem pickOf_eq (r : IVec S1024x1 32) (t : Fin 1024) (q : Fin 832) :
    pickOf (F := Ideal) r (ix2 t q)
      = if (r (ix2 t 0) = BitVec.ofNat 32 (4 * (q.val / 104) + q.val % 104 / 25)
          ∧ rankOf (F := Ideal) r (ix2 t 0) = BitVec.ofNat 32 (q.val % 104 % 25)) ∧ q.val % 104 < 100 then 1 else 0 := by
  unfold pickOf
  rw [pay1_eq]
  generalize rankOf (F := Ideal) r = rk
  pointwise [k0_pay14, k0_pay15, k0_pay16, k0_pay17, k0_pay18, k0_pay19, k0_pay20, k0_pay21, k0_pay22, k0_pay23]
  simp only [flag_eq, eq_holds, and_holds]
  refine if_congr (and_congr (and_congr (Eq.congr rfl ?_) (Eq.congr rfl ?_)) ?_) rfl rfl
  · revert q
    decide +kernel
  · revert q
    decide +kernel
  · revert q
    decide +kernel

/-- The tokens' counts, turned from a column into a row by a product with ones. -/
theorem pay5_eq (v : IVec S1024x1 32) (t : Fin 1024) :
    k0_pay5 (F := Ideal) v (k0_pay3 (F := Ideal)) (ix2 0 t) = v (ix2 t 0) := by
  pointwise [k0_pay5, k0_pay3]
  rw [Fin.sum_univ_one]
  exact back_word _

/-- Whether block row `p` of device `c` is one of the token's expert's. -/
theorem pay6_eq (c : Fin 8) (r : IVec S1024x1 32) (p : Fin 104) (t : Fin 1024) :
    k0_pay6 (F := Ideal) (BitVec.ofNat 32 c.val) (k0_pay3 (F := Ideal)) (k0_pay4 (F := Ideal) r)
        (constant (F := Ideal) S8x1024 .f32 0x00000000#32) (ix2 p t)
      = IntOp.cmpi .eq (r (ix2 t 0)) (BitVec.ofNat 32 (4 * c.val + p.val / 25)) := by
  pointwise [k0_pay6, k0_pay3, k0_pay4]
  rw [Fin.sum_univ_one]
  refine congrArg₂ (IntOp.cmpi .eq) (back_word _) ?_
  revert c p
  decide +kernel

/-- The tokens collected: row `p` is the sum of the tokens whose place in the block is `p`. -/
theorem pay10_eq (a : IVec S1x1024 32) (own : IVec S104x1024 1) (x : FVec Ideal S1024x256 .f32) (p : Fin 104) (d : Fin 256) :
    k0_pay10 (F := Ideal) a (iota .tc S104x1024 32 [0] iota_S104x1024_d0_w32) own
        (Scalar.select (Scalar.cmpi .eq 25#32 0#32) 1#32 25#32) k0_pay7 k0_pay8 k0_pay9 0#32 x (ix2 p d)
      = ∑ s : Fin 1024, (if (own (ix2 p s) = 1#1 ∧ a (ix2 0 s) = BitVec.ofNat 32 (p.val % 25)) ∧ p.val < 100
          then (1 : EReal) else 0) * x (ix2 s d) := by
  pointwise [k0_pay10, k0_pay7, k0_pay8, k0_pay9]
  simp only [flag_eq, eq_holds, and_holds]
  refine Finset.sum_congr rfl fun s _ => congrArg (· * x (ix2 s d)) ?_
  refine if_congr (and_congr (and_congr Iff.rfl (Eq.congr rfl ?_)) ?_) rfl rfl
  · revert p
    decide +kernel
  · revert p
    decide +kernel

/-- Which of the four copies of the collected tokens column `k` lies in. -/
theorem pay11_eq (p : Fin 104) (k : Fin 1024) : k0_pay11 (ix2 p k) = BitVec.ofNat 32 (k.val / 256) := by
  pointwise [k0_pay11]
  revert k
  decide +kernel

/-- The collected tokens against the weights, the copies' numbers given: row `p` meets the copy of its number only. -/
theorem pay13_eq (v : FVec Ideal S104x256 .f32) (n : IVec S104x1024 32) (e : FVec Ideal S4x256x512 .f32) (p : Fin 104) (h : Fin 512) :
    k0_pay13 (F := Ideal) v (iota .tc S104x1024 32 [0] iota_S104x1024_d0_w32) n 25#32 k0_pay12 e (ix2 p h)
      = ∑ k : Fin 1024, if n (ix2 p k) = BitVec.ofNat 32 (p.val / 25)
          then v (ix2 p ⟨k.val % 256, by omega⟩) * e (ix3 ⟨k.val / 256, by omega⟩ ⟨k.val % 256, by omega⟩ h) else 0 := by
  pointwise [k0_pay12, k0_pay13]
  refine Finset.sum_congr rfl fun k _ => ?_
  show (if IntOp.cmpi .eq _ _ = 1#1 then _ else _) = _
  refine if_congr ((eq_holds _ _).trans (Eq.congr rfl ?_)) (congrArg (· * _) ?_) rfl
  · revert p
    decide +kernel
  · split_ifs <;> exact congrArg (fun z => v (ix2 p z)) (Fin.ext (by show _ = k.val % 256; simp only; omega))

/-- The copy of column `k` is the one of row `p` where the numbers agree. -/
theorem copy_iff (p : Fin 104) (k : Fin 1024) : k0_pay11 (ix2 p k) = BitVec.ofNat 32 (p.val / 25) ↔ k.val / 256 = p.val / 25 := by
  rw [pay11_eq, word_eq_iff (by omega), BitVec.toNat_ofNat, Nat.mod_eq_of_lt (by omega)]

/-! ## A block's row -/

/-- A sum over 1024, in four rows of 256. -/
theorem sum_rows (f : Fin 1024 → EReal) :
    ∑ k, f k = ∑ i : Fin 4, ∑ d : Fin 256, f ⟨256 * i.val + d.val, by omega⟩ := by
  rw [sum_groups, Fin.sum_univ_four, ← add_assoc]
  refine congrArg₂ (· + ·) (congrArg₂ (· + ·) (congrArg₂ (· + ·) ?_ rfl) rfl) rfl
  exact Finset.sum_congr rfl fun d _ => congrArg f (Fin.ext (Nat.zero_add _).symm)

/-- Device `c`'s block, row `p`: the sum of the tokens placed at `p`, against the weights of expert `p / 25` of the device. -/
theorem blockOf_eq (c : Fin 8) (x : FVec Ideal S1024x256 .f32) (r : IVec S1024x1 32) (e : FVec Ideal S4x256x512 .f32)
    (p : Fin 104) (hp : p.val < 100) (h : Fin 512) :
    blockOf (F := Ideal) (BitVec.ofNat 32 c.val) x r e (ix2 p h)
      = ∑ d : Fin 256, (∑ s : Fin 1024, (if r (ix2 s 0) = BitVec.ofNat 32 (4 * c.val + p.val / 25)
          ∧ rankOf (F := Ideal) r (ix2 s 0) = BitVec.ofNat 32 (p.val % 25) then (1 : EReal) else 0) * x (ix2 s d))
          * e (ix3 ⟨p.val / 25, by omega⟩ d h) := by
  unfold blockOf
  rw [pay1_eq, pay13_eq]
  simp only [copy_iff]
  rw [sum_rows, Finset.sum_eq_single ⟨p.val / 25, by omega⟩]
  · refine Finset.sum_congr rfl fun d _ => ?_
    have h1 : (256 * (p.val / 25) + d.val) / 256 = p.val / 25 := by omega
    have h2 : (256 * (p.val / 25) + d.val) % 256 = d.val := by omega
    simp only [h1, h2, if_true, Fin.eta]
    rw [pay10_eq]
    simp only [pay6_eq, pay5_eq, eq_holds, hp, and_true]
  · intro i _ hi
    refine Finset.sum_eq_zero fun d _ => if_neg fun h' => hi (Fin.ext ?_)
    change (256 * i.val + d.val) / 256 = p.val / 25 at h'
    show i.val = p.val / 25
    omega
  · intro h'; exact absurd (Finset.mem_univ _) h'

end Cert.Moe

end
-- ==== Proof.Values.lean ====
/-
What the kernel computes, in closed form: token `t` with expert `e`, taken if fewer than 25 earlier tokens chose `e`, ends
with its row times the expert's weights; every other token ends with zero.
-/
module

public import proofs.«01_k».proof.Proof.Entries

@[expose] public section

set_option maxRecDepth 16384

noncomputable section

namespace Cert.Moe

open Cert.KernelIdeal Cert.KernelIdeal.Gen Cert.Exchange
open Idealize.ShloMosaic

/-- The shape of all the experts' weights. -/
abbrev SW : Shape := ⟨3, ![32, 256, 512]⟩

/-- The mixture's result at token `t` and column `h`. -/
def expectedAt (x : FVec Ideal S1024x256 .f32) (R : Fin 1024 → BitVec 32) (W : FVec Ideal SW .f32) (t : Fin 1024) (h : Fin 512) : EReal :=
  if he : (R t).toNat < 32 then
    if ahead R t (R t) < 25 then ∑ d : Fin 256, x (ix2 t d) * W (ix3 ⟨(R t).toNat, he⟩ d h) else 0
  else 0

/-- The mixture's result. -/
def expected (x : FVec Ideal S1024x256 .f32) (r : IVec S1024x1 32) (W : FVec Ideal SW .f32) : FVec Ideal S1024x512 .f32 :=
  fun j => expectedAt x (fun s => r (ix2 s 0)) W (j 0) (j 1)

/-- A token's count matches a rank below 25 where its expert exists and its own count is that rank. -/
theorem rank_iff (r : IVec S1024x1 32) (t : Fin 1024) (n : ℕ) (hn : n < 25) (he : (r (ix2 t 0)).toNat < 32) :
    rankOf (F := Ideal) r (ix2 t 0) = BitVec.ofNat 32 n ↔ ahead (fun s => r (ix2 s 0)) t (r (ix2 t 0)) = n := by
  have hlt := ahead_lt (fun s => r (ix2 s 0)) t (r (ix2 t 0))
  rw [rankOf_eq, if_pos he, word_eq_iff (by omega), BitVec.toNat_ofNat, Nat.mod_eq_of_lt (by omega)]

/-- The tokens collected at token `t`'s place: token `t` alone. -/
theorem collected (x : FVec Ideal S1024x256 .f32) (r : IVec S1024x1 32) (t : Fin 1024) (n e : ℕ) (hn : n < 25) (he : e < 32)
    (hR : (r (ix2 t 0)).toNat = e) (hr : ahead (fun s => r (ix2 s 0)) t (r (ix2 t 0)) = n) (d : Fin 256) :
    (∑ s : Fin 1024, (if r (ix2 s 0) = BitVec.ofNat 32 e ∧ rankOf (F := Ideal) r (ix2 s 0) = BitVec.ofNat 32 n
      then (1 : EReal) else 0) * x (ix2 s d)) = x (ix2 t d) := by
  have hRt : r (ix2 t 0) = BitVec.ofNat 32 e := (word_eq_iff (by omega)).2 hR
  rw [Finset.sum_eq_single t, if_pos ⟨hRt, (rank_iff r t n hn (by omega)).2 hr⟩, one_mul]
  · intro s _ hs
    rw [if_neg, zero_mul]
    rintro ⟨h1, h2⟩
    have h1' := (word_eq_iff (by omega)).1 h1
    have h3 := (rank_iff r s n hn (by omega)).1 h2
    exact hs (ahead_inj (R := fun s => r (ix2 s 0)) (h1.trans hRt.symm) (h3.trans hr.symm))
  · intro h'; exact absurd (Finset.mem_univ _) h'

/-- The select matrix over the gathered blocks is the mixture's result, where device `c`'s weights are experts `4 c` on. -/
theorem out_eq (x : FVec Ideal S1024x256 .f32) (r : IVec S1024x1 32) (W : FVec Ideal SW .f32)
    (Wc : Fin 8 → FVec Ideal S4x256x512 .f32)
    (hW : ∀ (c : Fin 8) (i : Fin 4) (d : Fin 256) (h : Fin 512), Wc c (ix3 i d h) = W (ix3 ⟨4 * c.val + i.val, by omega⟩ d h))
    (g : FVec Ideal S8x104x512 .bf16)
    (hg : ∀ (c : Fin 8) (p : Fin 104) (h : Fin 512), g (ix3 c p h) = blockOf (F := Ideal) (BitVec.ofNat 32 c.val) x r (Wc c) (ix2 p h)) :
    k0_pay24 (F := Ideal) (pickOf (F := Ideal) r) g = expected x r W := by
  funext j
  obtain ⟨t, h, rfl⟩ : ∃ (t : Fin 1024) (h : Fin 512), j = ix2 t h := ⟨j 0, j 1, eq_ix2 j⟩
  have e1 : k0_pay24 (F := Ideal) (pickOf (F := Ideal) r) g (ix2 t h)
      = ∑ q : Fin 832, pickOf (F := Ideal) r (ix2 t q) * g (ix3 ⟨q.val / 104, by omega⟩ ⟨q.val % 104, by omega⟩ h) := by
    generalize pickOf (F := Ideal) r = m
    pointwise [k0_pay24]
  show _ = expectedAt x (fun s => r (ix2 s 0)) W t h
  rw [e1, expectedAt]
  simp only [pickOf_eq]
  by_cases he : (r (ix2 t 0)).toNat < 32
  · by_cases hr : ahead (fun s => r (ix2 s 0)) t (r (ix2 t 0)) < 25
    · rw [dif_pos he, if_pos hr]
      obtain ⟨e, hR⟩ : ∃ e, (r (ix2 t 0)).toNat = e := ⟨_, rfl⟩
      obtain ⟨n, hn⟩ : ∃ n, ahead (fun s => r (ix2 s 0)) t (r (ix2 t 0)) = n := ⟨_, rfl⟩
      rw [hR] at he
      rw [hn] at hr
      rw [Finset.sum_eq_single ⟨e / 4 * 104 + e % 4 * 25 + n, by omega⟩]
      · have h1 : (e / 4 * 104 + e % 4 * 25 + n) / 104 = e / 4 := by omega
        have h2 : (e / 4 * 104 + e % 4 * 25 + n) % 104 = e % 4 * 25 + n := by omega
        have h3 : (e % 4 * 25 + n) / 25 = e % 4 := by omega
        have h4 : (e % 4 * 25 + n) % 25 = n := by omega
        have h5 : 4 * (e / 4) + e % 4 = e := by omega
        simp only [h1, h2, h3, h4, h5]
        rw [if_pos ⟨⟨(word_eq_iff (by omega)).2 hR, (rank_iff r t n hr (by omega)).2 hn⟩, by omega⟩, one_mul, hg,
          blockOf_eq _ _ _ _ _ (by show e % 4 * 25 + n < 100; omega)]
        simp only [h3, h4, h5, hW]
        refine Finset.sum_congr rfl fun d _ => ?_
        rw [collected x r t n e hr he hR hn d]
        simp only [hR]
      · intro q _ hq
        rw [if_neg, zero_mul]
        rintro ⟨⟨h1, h2⟩, h3⟩
        have h1' := (word_eq_iff (by omega)).1 h1
        have h2' := (rank_iff r t _ (by omega) (by omega)).1 h2
        refine hq (Fin.ext ?_)
        show q.val = e / 4 * 104 + e % 4 * 25 + n
        omega
      · intro h'; exact absurd (Finset.mem_univ _) h'
    · rw [dif_pos he, if_neg hr]
      refine Finset.sum_eq_zero fun q _ => ?_
      rw [if_neg, zero_mul]
      rintro ⟨⟨_, h2⟩, _⟩
      have h2' := (rank_iff r t _ (by omega) he).1 h2
      omega
  · rw [dif_neg he]
    refine Finset.sum_eq_zero fun q _ => ?_
    rw [if_neg, zero_mul]
    rintro ⟨⟨h1, _⟩, h3⟩
    have h1' := (word_eq_iff (by omega)).1 h1
    omega

end Cert.Moe

end
-- ==== Proof.Reference.lean ====
/-
The reference's result in closed form: the sum over the 32 experts keeps the token's own, where fewer than 25 earlier
tokens chose it.
-/
module

public import proofs.«01_k».proof.Proof.Values
public import proofs.«01_k».proof.Proof.Gen.ReferenceIdeal.Run
public import Idealize.ShloMosaic.Lib.Routing.OpsOne

@[expose] public section

set_option maxRecDepth 16384

noncomputable section

namespace Cert.Moe

open Cert.ReferenceIdeal Cert.ReferenceIdeal.Gen
open Idealize.ShloMosaic

/-- The one-hot table of the tokens' experts, as words. -/
def hotOf (r : IVec S1024x1 32) : IVec S1024x32 32 :=
  extui 32 (cmpi .eq (broadcastInDim S1024x32 ![0, 1] bcast_S1024x1_S1024x32_0_1 r) (iotaInDim S1024x32 32 1)) natLt_1_32

/-- The running sums of its columns. -/
def sumsOf (r : IVec S1024x1 32) : IVec S1024x32 32 :=
  Host.reduceWindow IntOp.addi ![1024, 1] ![1, 1] ![1023, 0] ![0, 0] (hotOf r) (broadcastInDim S_ ![] bcast_S_S_ (constantI S_ 32 0#32)) reduceWindows_S1024x32_S1024x32_w1024s1p1023_0_w1s1p0_0 h_S_

/-- The reference's result as its operations compose it. -/
def refOf (x : FVec Ideal S1024x256 .f32) (r : IVec S1024x1 32) (W : FVec Ideal S32x256x512 .f32) : FVec Ideal S1024x512 .f32 :=
  Host.reduceAdd (mulf (broadcastInDim S1024x32x512 ![0, 1, 2] bcast_S1024x32x1_S1024x32x512_0_1_2 (id (broadcastInDim S1024x32x1 ![0, 1] bcast_S1024x32_S1024x32x1_0_1 (select (andi (cmpi .eq (hotOf r) (broadcastInDim S1024x32 ![] bcast_S_S1024x32 (constantI S_ 32 1#32))) (cmpi .slt (subi (sumsOf r) (hotOf r)) (broadcastInDim S1024x32 ![] bcast_S_S1024x32 (constantI S_ 32 25#32)))) (broadcastInDim S1024x32 ![] bcast_S_S1024x32 (constant S_ .f32 0x3F800000#32)) (broadcastInDim S1024x32 ![] bcast_S_S1024x32 (constant S_ .f32 0x00000000#32)))))) (Host.dotGeneral dot_S1024x256_S32x256x512_S1024x32x512_1_1_0_02_n_n none x W)) (constant S_ .f32 0x00000000#32) reducesTo_S1024x32x512_S1024x512_d1 h_S_

/-- An entry of the one-hot table. -/
theorem hotOf_eq (r : IVec S1024x1 32) (t : Fin 1024) (e : Fin 32) :
    hotOf r (ix2 t e) = BitVec.setWidth 32 (IntOp.cmpi .eq (r (ix2 t 0)) (BitVec.ofNat 32 e.val)) := by
  pointwise [hotOf]

/-- A truth value widened to a word. -/
theorem flag_word (b : BitVec 1) : b.setWidth 32 = if b = 1#1 then 1#32 else 0#32 := by decide +revert

/-- Truth values as words sum to the word of how many hold. -/
theorem sum_flag_words {ι : Type} (S : Finset ι) (p : ι → Prop) [DecidablePred p] :
    (∑ i ∈ S, if p i then 1#32 else 0#32) = BitVec.ofNat 32 (S.filter p).card := by
  classical
  induction S using Finset.induction_on with
  | empty => rfl
  | insert a S ha ih =>
    rw [Finset.sum_insert ha, ih, Finset.filter_insert]
    by_cases h : p a
    · rw [if_pos h, if_pos h, Finset.card_insert_of_notMem (fun hm => ha (Finset.mem_filter.1 hm).1), BitVec.ofNat_add,
        BitVec.add_comm]
    · rw [if_neg h, if_neg h, BitVec.zero_add]

/-- The running sum less the token's own flag: how many earlier tokens chose the expert. -/
theorem sums_sub (r : IVec S1024x1 32) (t : Fin 1024) (e : Fin 32) :
    IntOp.subi (sumsOf r (ix2 t e)) (hotOf r (ix2 t e))
      = BitVec.ofNat 32 (ahead (fun s => r (ix2 s 0)) t (BitVec.ofNat 32 e.val)) := by
  have hc : sumsOf r (ix2 t e) = ∑ s : Fin 1024, if s ≤ t then hotOf r (ix2 s e) else 0 :=
    Routing.cumsum_rows_sum (A := 1024) (Am1 := 1023) (N := 32) rfl (hotOf r)
      (broadcastInDim S_ ![] bcast_S_S_ (constantI S_ 32 0#32)) rfl
      reduceWindows_S1024x32_S1024x32_w1024s1p1023_0_w1s1p0_0 h_S_ t e
  have hsplit : (∑ s : Fin 1024, if s ≤ t then hotOf r (ix2 s e) else 0)
      = (∑ s : Fin 1024, if s < t then hotOf r (ix2 s e) else 0) + hotOf r (ix2 t e) := by
    have h1 : hotOf r (ix2 t e) = ∑ s : Fin 1024, if s = t then hotOf r (ix2 s e) else 0 := by
      rw [Finset.sum_ite_eq' Finset.univ t fun s => hotOf r (ix2 s e), if_pos (Finset.mem_univ t)]
    conv_rhs => rw [h1]
    rw [← Finset.sum_add_distrib]
    refine Finset.sum_congr rfl fun s _ => ?_
    rcases lt_trichotomy s t with h | h | h
    · rw [if_pos h.le, if_pos h, if_neg h.ne, add_zero]
    · rw [if_pos h.le, if_neg h.not_lt, if_pos h, zero_add]
    · rw [if_neg h.not_ge, if_neg h.not_gt, if_neg h.ne', add_zero]
  rw [hc, hsplit]
  show _ + _ - _ = _
  rw [add_sub_cancel_right, ahead, ← sum_flag_words]
  refine Finset.sum_congr rfl fun s _ => ?_
  rw [hotOf_eq, flag_word]
  by_cases h : s < t
  · rw [if_pos h]
    exact if_congr ((eq_holds _ _).trans ⟨fun h' => ⟨h, h'⟩, fun h' => h'.2⟩) rfl rfl
  · rw [if_neg h, if_neg (fun h' => h h'.1)]
    rfl

/-- The reference's result is the mixture's. -/
theorem ref_eq (x : FVec Ideal S1024x256 .f32) (r : IVec S1024x1 32) (W : FVec Ideal S32x256x512 .f32) :
    refOf x r W = expected x r W := by
  funext j
  obtain ⟨t, h, rfl⟩ : ∃ (t : Fin 1024) (h : Fin 512), j = ix2 t h := ⟨j 0, j 1, eq_ix2 j⟩
  show _ = expectedAt x (fun s => r (ix2 s 0)) W t h
  unfold refOf
  have hs := sums_sub r t
  generalize sumsOf r = sums at hs ⊢
  have hh := hotOf_eq r t
  generalize hotOf r = hot at hs hh ⊢
  simp only [hh] at hs
  pointwise [id]
  have hone : ∀ b : BitVec 1, (IntOp.cmpi .eq (b.setWidth 32) 1#32) = b := by decide
  simp only [hs, hh, hone]
  have key : ∀ e : Fin 32, Scalar.select (IntOp.andi (IntOp.cmpi .eq (r (ix2 t 0)) (BitVec.ofNat 32 e.val))
      (IntOp.cmpi .slt (BitVec.ofNat 32 (ahead (fun s => r (ix2 s 0)) t (BitVec.ofNat 32 e.val))) 25#32))
        (∑ d : Fin 256, x (ix2 t d) * W (ix3 e d h)) (0 : EReal)
      = if r (ix2 t 0) = BitVec.ofNat 32 e.val then
          (if ahead (fun s => r (ix2 s 0)) t (r (ix2 t 0)) < 25 then ∑ d : Fin 256, x (ix2 t d) * W (ix3 e d h) else 0) else 0 := by
    intro e
    show (if IntOp.andi _ _ = 1#1 then _ else _) = _
    by_cases h1 : r (ix2 t 0) = BitVec.ofNat 32 e.val
    · rw [if_pos h1, h1]
      refine if_congr ((and_holds _ _).trans ?_) rfl rfl
      rw [eq_holds, lt_holds ((ahead_lt _ _ _).trans (by norm_num)) (by norm_num)]
      exact ⟨fun h' => h'.2, fun h' => ⟨rfl, h'⟩⟩
    · rw [if_neg h1]
      exact if_neg fun h' => h1 ((eq_holds _ _).1 ((and_holds _ _).1 h').1)
  refine (Finset.sum_congr rfl fun e _ => key e).trans ?_
  rw [sum_pick (r (ix2 t 0)) fun e =>
    if ahead (fun s => r (ix2 s 0)) t (r (ix2 t 0)) < 25 then ∑ d : Fin 256, x (ix2 t d) * W (ix3 e d h) else 0]
  rfl

end Cert.Moe

end
-- ==== Proof.Claims.lean ====
/-
The certificate's claims: the three programs run to their ends with the arguments unchanged and every counter at zero, and
at exact arithmetic each device of the kernel ends with the reference's result.
-/
module

public import proofs.«01_k».proof.Defs
public import proofs.«01_k».proof.Proof.Ends
public import proofs.«01_k».proof.Proof.Reference
public import proofs.«01_k».proof.Proof.Gen.Kernel
public import proofs.«01_k».proof.Proof.Gen.ReferenceIdeal

@[expose] public section

set_option maxRecDepth 16384

noncomputable section

namespace Cert.Moe

open Idealize.ShloMosaic Idealize.ShloMosaic.TcCoe Idealize.SL.Sem Cert.Exchange

/-! ## What the kernel's devices end with, at exact arithmetic -/

section Kernel
open Cert.KernelIdeal Cert.KernelIdeal.Gen

variable (m : (ℓ : Loc nD τ sig) → Buf (Elt Ideal) ℓ) (ρ : Dev nD → PrngReg)

/-- A device's number is the word the kernel computes for it. -/
theorem myWord_eq (c : Fin 8) : myWord c = BitVec.ofNat 32 c.val := by
  revert c
  decide +kernel

/-- Where every device holds the same tokens and routes, and device `c` the weights of experts `4 c` on, the kernel's result
    on every device is the mixture's. -/
theorem outOf_eq (x : FVec Ideal S1024x256 .f32) (r : IVec S1024x1 32) (W : FVec Ideal SW .f32)
    (hx : ∀ c : Dev nD, m ((c : Thread nD τ).loc main_arg0) = x) (hr : ∀ c : Dev nD, m ((c : Thread nD τ).loc main_arg2) = r)
    (hW : ∀ c : Dev nD, m ((c : Thread nD τ).loc main_arg3) = Layout.block ⟨3, ![4, 256, 512]⟩ SW 0 8 c W) (c : Dev nD) :
    outOf m ρ c = expected x r W := by
  unfold outOf
  rw [rOf_eq, hr]
  refine out_eq x r W (fun o => Layout.block ⟨3, ![4, 256, 512]⟩ SW 0 8 o W) ?_ (gathered m ρ) ?_
  · intro o i d h
    show W _ = W _
    refine congrArg W (funext fun b => Fin.ext ?_)
    rw [Layout.Tiles.idx_val]
    fin_cases b
    · show o.val * 4 + i.val = 4 * o.val + i.val
      omega
    · rfl
    · rfl
  · intro o p h
    have hb : blk m ρ o = blockOf (F := Ideal) (BitVec.ofNat 32 o.val) x r (Layout.block ⟨3, ![4, 256, 512]⟩ SW 0 8 o W) := by
      unfold blk
      rw [xOf_eq, rOf_eq, wOf_eq, hx, hr, hW, myWord_eq]
    rw [← hb]
    show blk m ρ o _ = blk m ρ o _
    exact congrArg (blk m ρ o) (eq_ix2 _)

end Kernel

/-! ## The claims -/

section Frames
open Cert.KernelIdeal

/-- The kernel over any number format: it ends, the arguments unchanged, every counter at zero. -/
theorem frames {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0 :=
  (θ_run defs _ _).mono (fun r h => ⟨fun c => (ends_read m ρ r h.1 c).2, h.2⟩) (run_main m ρ)

end Frames

/-! The kernel's two readings are one program text: body, body table and all. -/

theorem body_same (F : FTy → Type) [FloatOps F] : Cert.Kernel.cc0_body (F := F) = Cert.KernelIdeal.cc0_body (F := F) := rfl

theorem defs₀_same (F : FTy → Type) [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    dsimp only
    rw [body_same]

theorem defs_same (F : FTy → Type) [FloatOps F] : Cert.Kernel.defs (F := F) = Cert.KernelIdeal.defs (F := F) := by
  unfold Cert.Kernel.defs Cert.KernelIdeal.defs
  rw [defs₀_same]
  rfl

/-- The kernel as it rounds: it ends, the arguments unchanged, every counter at zero. -/
theorem frame_kernel : Cert.quiescent_Kernel := by
  intro m ρ _
  rw [defs_same]
  exact frames (F := Bits) m ρ

/-- The kernel at exact arithmetic: likewise. -/
theorem frame_ideal : Cert.quiescent_KernelIdeal := fun m ρ _ => frames (F := Ideal) m ρ

/-- The reference at exact arithmetic: likewise; it has no counters. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- At exact arithmetic every device of the kernel ends with the reference's result. -/
theorem algebraic : Cert.algebraic_KernelIdeal_ReferenceIdeal := fun m ρ m' ρ' _ hin =>
  ⟨expected (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun r h c => ⟨(ends_read m ρ r h.1 c).1.trans
          (outOf_eq m ρ _ _ _ (fun o => (hin o).1) (fun o => (hin o).2.2.1) (fun o => (hin o).2.2.2) c),
        (ends_read m ρ r h.1 c).2⟩)
      (run_main (F := Ideal) m ρ),
    (θ_run Cert.ReferenceIdeal.defs _ _).mono
      (fun r h => ⟨(h 0).1.trans (ref_eq _ _ _), (h 0).2⟩)
      (Cert.ReferenceIdeal.Value.run (F := Ideal) m' ρ')⟩

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The five claims of the statement together. -/
theorem claim : Cert.Claim :=
  ⟨Cert.Kernel.Gen.facts, Cert.KernelIdeal.Gen.facts, Cert.ReferenceIdeal.Gen.facts,
    Cert.Moe.frame_kernel, Cert.Moe.frame_ideal, Cert.Moe.frame_ref, trivial, Cert.Moe.algebraic⟩

end Cert.Proof

end
